-- ==== Defs.lean ====
def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v16_0) = v0 c
          ∧ r.2.mem ((c.tc : Thread Cert.InRefIdeal.nD Cert.InRefIdeal.τ).loc Cert.InRefIdeal.main_v16_1) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35_0) = v0 c
          ∧ r.2.mem ((c.tc : Thread Cert.AttnRefIdeal.nD Cert.AttnRefIdeal.τ).loc Cert.AttnRefIdeal.main_v35_1) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)) →
    ∃ (v0 : (c : Dev Cert.OProjIdeal.nD) → Buf (Elt Ideal) ((c.tc : Thread Cert.OProjIdeal.nD Cert.OProjIdeal.τ).loc Cert.OProjIdeal.main_v1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v1) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v0) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v1_0)) (v1 : (c : Dev Cert.MidIdeal.nD) → Buf (Elt Ideal) ((c.tc : Thread Cert.MidIdeal.nD Cert.MidIdeal.τ).loc Cert.MidIdeal.main_v1_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1_0) = v0 c
          ∧ r.2.mem ((c.tc : Thread Cert.MidIdeal.nD Cert.MidIdeal.τ).loc Cert.MidIdeal.main_v1_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v26_0) = v0 c
          ∧ r.2.mem ((c.tc : Thread Cert.MidRefIdeal.nD Cert.MidRefIdeal.τ).loc Cert.MidRefIdeal.main_v26_1) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hIn : Cert.In.Facts) (hInIdeal : Cert.InIdeal.Facts) (hInRefIdeal : Cert.InRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hOProj : Cert.OProj.Facts) (hOProjIdeal : Cert.OProjIdeal.Facts) (hOProjRefIdeal : Cert.OProjRefIdeal.Facts) (hMid : Cert.Mid.Facts) (hMidIdeal : Cert.MidIdeal.Facts) (hMidRefIdeal : Cert.MidRefIdeal.Facts) (hGateUp : Cert.GateUp.Facts) (hGateUpIdeal : Cert.GateUpIdeal.Facts) (hGateUpRefIdeal : Cert.GateUpRefIdeal.Facts) (hQuant : Cert.Quant.Facts) (hQuantIdeal : Cert.QuantIdeal.Facts) (hQuantRefIdeal : Cert.QuantRefIdeal.Facts) (hDown : Cert.Down.Facts) (hDownIdeal : Cert.DownIdeal.Facts) (hDownRefIdeal : Cert.DownRefIdeal.Facts),
    quiescent_In (hIn := hIn)
    ∧ quiescent_InIdeal (hInIdeal := hInIdeal)
    ∧ quiescent_InRefIdeal (hInRefIdeal := hInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ quiescent_AttnRefIdeal (hAttnRefIdeal := hAttnRefIdeal)
    ∧ quiescent_OProj (hOProj := hOProj)
    ∧ quiescent_OProjIdeal (hOProjIdeal := hOProjIdeal)
    ∧ quiescent_OProjRefIdeal (hOProjRefIdeal := hOProjRefIdeal)
    ∧ quiescent_Mid (hMid := hMid)
    ∧ quiescent_MidIdeal (hMidIdeal := hMidIdeal)
    ∧ quiescent_MidRefIdeal (hMidRefIdeal := hMidRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Quant (hQuant := hQuant)
    ∧ quiescent_QuantIdeal (hQuantIdeal := hQuantIdeal)
    ∧ quiescent_QuantRefIdeal (hQuantRefIdeal := hQuantRefIdeal)
    ∧ quiescent_Down (hDown := hDown)
    ∧ quiescent_DownIdeal (hDownIdeal := hDownIdeal)
    ∧ quiescent_DownRefIdeal (hDownRefIdeal := hDownRefIdeal)
    ∧ preserves_In_InIdeal
    ∧ algebraic_InIdeal_InRefIdeal (hInIdeal := hInIdeal) (hInRefIdeal := hInRefIdeal)
    ∧ preserves_Qkv_QkvIdeal
    ∧ algebraic_QkvIdeal_QkvRefIdeal (hQkvIdeal := hQkvIdeal) (hQkvRefIdeal := hQkvRefIdeal)
    ∧ preserves_Attn_AttnIdeal
    ∧ algebraic_AttnIdeal_AttnRefIdeal (hAttnIdeal := hAttnIdeal) (hAttnRefIdeal := hAttnRefIdeal)
    ∧ preserves_OProj_OProjIdeal
    ∧ algebraic_OProjIdeal_OProjRefIdeal (hOProjIdeal := hOProjIdeal) (hOProjRefIdeal := hOProjRefIdeal)
    ∧ preserves_Mid_MidIdeal
    ∧ algebraic_MidIdeal_MidRefIdeal (hMidIdeal := hMidIdeal) (hMidRefIdeal := hMidRefIdeal)
    ∧ preserves_GateUp_GateUpIdeal
    ∧ algebraic_GateUpIdeal_GateUpRefIdeal (hGateUpIdeal := hGateUpIdeal) (hGateUpRefIdeal := hGateUpRefIdeal)
    ∧ preserves_Quant_QuantIdeal
    ∧ algebraic_QuantIdeal_QuantRefIdeal (hQuantIdeal := hQuantIdeal) (hQuantRefIdeal := hQuantRefIdeal)
    ∧ preserves_Down_DownIdeal
    ∧ algebraic_DownIdeal_DownRefIdeal (hDownIdeal := hDownIdeal) (hDownRefIdeal := hDownRefIdeal)
-- ==== In.lean ====
abbrev S4 : Shape := ⟨1, ![4]⟩
abbrev S3584 : Shape := ⟨1, ![3584]⟩
abbrev S12x128x4x3584 : Shape := ⟨4, ![12, 128, 4, 3584]⟩
abbrev S1x3584 : Shape := ⟨2, ![1, 3584]⟩
abbrev S1536x3584 : Shape := ⟨2, ![1536, 3584]⟩
abbrev S1536x1 : Shape := ⟨2, ![1536, 1]⟩
abbrev S1x64x4x3584 : Shape := ⟨4, ![1, 64, 4, 3584]⟩
abbrev S64x3584 : Shape := ⟨2, ![64, 3584]⟩
abbrev S64x1 : Shape := ⟨2, ![64, 1]⟩
abbrev S1 : Shape := ⟨1, ![1]⟩
abbrev S1x64x1x3584 : Shape := ⟨4, ![1, 64, 1, 3584]⟩
abbrev S64 : Shape := ⟨1, ![64]⟩

abbrev nBuf : Space → Nat
  | .hbm => 6
  | .vmem => 7
  | .smem => 1
  | _ => 0

abbrev bufTy : (tb : Table) → Fin (tcTables nBuf tb) → BufTy
  | .hbm, ⟨0, _⟩ => ⟨S4, .f32⟩
  | .hbm, ⟨1, _⟩ => ⟨S3584, .f32⟩
  | .hbm, ⟨2, _⟩ => ⟨S12x128x4x3584, .bf16⟩
  | .hbm, ⟨3, _⟩ => ⟨S1x3584, .f32⟩
  | .hbm, ⟨4, _⟩ => ⟨S1536x3584, .fp8e4m3⟩
  | .hbm, ⟨5, _⟩ => ⟨S1536x1, .f32⟩
  | .local _ .vmem, ⟨0, _⟩ => ⟨S1x3584, .f32⟩
  | .local _ .vmem, ⟨1, _⟩ => ⟨S1x64x4x3584, .bf16⟩
  | .local _ .vmem, ⟨2, _⟩ => ⟨S1x64x4x3584, .bf16⟩
  | .local _ .vmem, ⟨3, _⟩ => ⟨S64x3584, .fp8e4m3⟩
  | .local _ .vmem, ⟨4, _⟩ => ⟨S64x3584, .fp8e4m3⟩
  | .local _ .vmem, ⟨5, _⟩ => ⟨S64x1, .f32⟩
  | .local _ .vmem, ⟨6, _⟩ => ⟨S64x1, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x4x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S4 : Shape := ⟨1, ![4]⟩
abbrev S3584 : Shape := ⟨1, ![3584]⟩
abbrev S12x128x4x3584 : Shape := ⟨4, ![12, 128, 4, 3584]⟩
abbrev S12x128x3584 : Shape := ⟨3, ![12, 128, 3584]⟩
abbrev S_ : Shape := ⟨0, ![]⟩
abbrev S12x128 : Shape := ⟨2, ![12, 128]⟩
abbrev S12x128x1 : Shape := ⟨3, ![12, 128, 1]⟩
abbrev S1x1x3584 : Shape := ⟨3, ![1, 1, 3584]⟩
abbrev S1536x3584 : Shape := ⟨2, ![1536, 3584]⟩
abbrev S1536x1 : Shape := ⟨2, ![1536, 1]⟩
abbrev S1536 : Shape := ⟨1, ![1536]⟩

abbrev nBuf : Space → Nat
  | .hbm => 24
  | .vmem => 3
  | .smem => 0
  | _ => 0

abbrev bufTy : (tb : Table) → Fin (tcTables nBuf tb) → BufTy
  | .hbm, ⟨0, _⟩ => ⟨S4, .f32⟩
  | .hbm, ⟨1, _⟩ => ⟨S3584, .f32⟩
  | .hbm, ⟨2, _⟩ => ⟨S12x128x4x3584, .bf16⟩
  | .hbm, ⟨3, _⟩ => ⟨S12x128x4x3584, .f32⟩
  | .hbm, ⟨4, _⟩ => ⟨S12x128x3584, .f32⟩
  | .hbm, ⟨5, _⟩ => ⟨S12x128x3584, .f32⟩
  | .hbm, ⟨6, _⟩ => ⟨S_, .f32⟩
  | .hbm, ⟨7, _⟩ => ⟨S12x128, .f32⟩
  | .hbm, ⟨8, _⟩ => ⟨S12x128x1, .f32⟩
  | .hbm, ⟨9, _⟩ => ⟨S_, .f32⟩
  | .hbm, ⟨10, _⟩ => ⟨S12x128x1, .f32⟩
  | .hbm, ⟨11, _⟩ => ⟨S12x128x1, .f32⟩
  | .hbm, ⟨12, _⟩ => ⟨S_, .f32⟩
  | .hbm, ⟨13, _⟩ => ⟨S12x128x1, .f32⟩
  | .hbm, ⟨14, _⟩ => ⟨S12x128x1, .f32⟩
  | .hbm, ⟨15, _⟩ => ⟨S12x128x1, .f32⟩
  | .hbm, ⟨16, _⟩ => ⟨S12x128x3584, .f32⟩
  | .hbm, ⟨17, _⟩ => ⟨S12x128x3584, .f32⟩
  | .hbm, ⟨18, _⟩ => ⟨S1x1x3584, .f32⟩
  | .hbm, ⟨19, _⟩ => ⟨S12x128x3584, .f32⟩
  | .hbm, ⟨20, _⟩ => ⟨S12x128x3584, .f32⟩
  | .hbm, ⟨21, _⟩ => ⟨S1536x3584, .f32⟩
  | .hbm, ⟨22, _⟩ => ⟨S1536x3584, .fp8e4m3⟩
  | .hbm, ⟨23, _⟩ => ⟨S1536x1, .f32⟩
  | .local _ .vmem, ⟨0, _⟩ => ⟨S1536x3584, .f32⟩
  | .local _ .vmem, ⟨1, _⟩ => ⟨S1536x3584, .fp8e4m3⟩
  | .local _ .vmem, ⟨2, _⟩ => ⟨S1536x1, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Qkv.lean ====
abbrev S1536x3584 : Shape := ⟨2, ![1536, 3584]⟩
abbrev S1536x1 : Shape := ⟨2, ![1536, 1]⟩
abbrev S3584x8192 : Shape := ⟨2, ![3584, 8192]⟩
abbrev S8192 : Shape := ⟨1, ![8192]⟩
abbrev S1x8192 : Shape := ⟨2, ![1, 8192]⟩
abbrev S1536x8192 : Shape := ⟨2, ![1536, 8192]⟩
abbrev S3584x512 : Shape := ⟨2, ![3584, 512]⟩
abbrev S1x512 : Shape := ⟨2, ![1, 512]⟩
abbrev S1536x512 : Shape := ⟨2, ![1536, 512]⟩

abbrev nBuf : Space → Nat
  | .hbm => 6
  | .vmem => 8
  | .smem => 0
  | _ => 0

abbrev bufTy : (tb : Table) → Fin (tcTables nBuf tb) → BufTy
  | .hbm, ⟨0, _⟩ => ⟨S1536x3584, .fp8e4m3⟩
  | .hbm, ⟨1, _⟩ => ⟨S1536x1, .f32⟩
  | .hbm, ⟨2, _⟩ => ⟨S3584x8192, .fp8e4m3⟩
  | .hbm, ⟨3, _⟩ => ⟨S8192, .f32⟩
  | .hbm, ⟨4, _⟩ => ⟨S1x8192, .f32⟩
  | .hbm, ⟨5, _⟩ => ⟨S1536x8192, .bf16⟩
  | .local _ .vmem, ⟨0, _⟩ => ⟨S1536x3584, .fp8e4m3⟩
  | .local _ .vmem, ⟨1, _⟩ => ⟨S1536x1, .f32⟩
  | .local _ .vmem, ⟨2, _⟩ => ⟨S3584x512, .fp8e4m3⟩
  | .local _ .vmem, ⟨3, _⟩ => ⟨S3584x512, .fp8e4m3⟩
  | .local _ .vmem, ⟨4, _⟩ => ⟨S1x512, .f32⟩
  | .local _ .vmem, ⟨5, _⟩ => ⟨S1x512, .f32⟩
  | .local _ .vmem, ⟨6, _⟩ => ⟨S1536x512, .bf16⟩
  | .local _ .vmem, ⟨7, _⟩ => ⟨S1536x512, .bf16⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S1536x3584 : Shape := ⟨2, ![1536, 3584]⟩
abbrev S1536x1 : Shape := ⟨2, ![1536, 1]⟩
abbrev S3584x8192 : Shape := ⟨2, ![3584, 8192]⟩
abbrev S8192 : Shape := ⟨1, ![8192]⟩
abbrev S1536x8192 : Shape := ⟨2, ![1536, 8192]⟩
abbrev S1x8192 : Shape := ⟨2, ![1, 8192]⟩

abbrev nBuf : Space → Nat
  | .hbm => 5
  | .vmem => 5
  | .smem => 0
  | _ => 0

abbrev bufTy : (tb : Table) → Fin (tcTables nBuf tb) → BufTy
  | .hbm, ⟨0, _⟩ => ⟨S1536x3584, .fp8e4m3⟩
  | .hbm, ⟨1, _⟩ => ⟨S1536x1, .f32⟩
  | .hbm, ⟨2, _⟩ => ⟨S3584x8192, .fp8e4m3⟩
  | .hbm, ⟨3, _⟩ => ⟨S8192, .f32⟩
  | .hbm, ⟨4, _⟩ => ⟨S1536x8192, .bf16⟩
  | .local _ .vmem, ⟨0, _⟩ => ⟨S1536x3584, .fp8e4m3⟩
  | .local _ .vmem, ⟨1, _⟩ => ⟨S1536x1, .f32⟩
  | .local _ .vmem, ⟨2, _⟩ => ⟨S3584x8192, .fp8e4m3⟩
  | .local _ .vmem, ⟨3, _⟩ => ⟨S8192, .f32⟩
  | .local _ .vmem, ⟨4, _⟩ => ⟨S1536x8192, .bf16⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Attn.lean ====
abbrev S1536x8192 : Shape := ⟨2, ![1536, 8192]⟩
abbrev S1536x4096 : Shape := ⟨2, ![1536, 4096]⟩
abbrev S1536x1 : Shape := ⟨2, ![1536, 1]⟩
abbrev S128x8192 : Shape := ⟨2, ![128, 8192]⟩
abbrev S128x4096 : Shape := ⟨2, ![128, 4096]⟩
abbrev S128x1 : Shape := ⟨2, ![128, 1]⟩
abbrev S128x128 : Shape := ⟨2, ![128, 128]⟩
abbrev S128x256 : Shape := ⟨2, ![128, 256]⟩
abbrev S128 : Shape := ⟨1, ![128]⟩

abbrev nBuf : Space → Nat
  | .hbm => 3
  | .vmem => 7
  | .smem => 0
  | _ => 0

abbrev bufTy : (tb : Table) → Fin (tcTables nBuf tb) → BufTy
  | .hbm, ⟨0, _⟩ => ⟨S1536x8192, .bf16⟩
  | .hbm, ⟨1, _⟩ => ⟨S1536x4096, .fp8e4m3⟩
  | .hbm, ⟨2, _⟩ => ⟨S1536x1, .f32⟩
  | .local _ .vmem, ⟨0, _⟩ => ⟨S128x8192, .bf16⟩
  | .local _ .vmem, ⟨1, _⟩ => ⟨S128x8192, .bf16⟩
  | .local _ .vmem, ⟨2, _⟩ => ⟨S128x4096, .fp8e4m3⟩
  | .local _ .vmem, ⟨3, _⟩ => ⟨S128x4096, .fp8e4m3⟩
  | .local _ .vmem, ⟨4, _⟩ => ⟨S128x1, .f32⟩
  | .local _ .vmem, ⟨5, _⟩ => ⟨S128x1, .f32⟩
  | .local _ .vmem, ⟨6, _⟩ => ⟨S128x4096, .f32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnRefIdeal.lean ====
abbrev S1536x8192 : Shape := ⟨2, ![1536, 8192]⟩
abbrev S12x128x8192 : Shape := ⟨3, ![12, 128, 8192]⟩
abbrev S12x128x4096 : Shape := ⟨3, ![12, 128, 4096]⟩
abbrev S12x128x8x2x256 : Shape := ⟨5, ![12, 128, 8, 2, 256]⟩
abbrev S12x128x2048 : Shape := ⟨3, ![12, 128, 2048]⟩
abbrev S12x128x8x256 : Shape := ⟨4, ![12, 128, 8, 256]⟩
abbrev S12x8x128x128x2 : Shape := ⟨5, ![12, 8, 128, 128, 2]⟩
abbrev S12x8x2x128x128 : Shape := ⟨5, ![12, 8, 2, 128, 128]⟩
abbrev S_ : Shape := ⟨0, ![]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S12x8x2x128 : Shape := ⟨4, ![12, 8, 2, 128]⟩
abbrev S12x8x2x128x1 : Shape := ⟨5, ![12, 8, 2, 128, 1]⟩
abbrev S12x8x256x2x128 : Shape := ⟨5, ![12, 8, 256, 2, 128]⟩
abbrev S1536x4096 : Shape := ⟨2, ![1536, 4096]⟩
abbrev S1536x1 : Shape := ⟨2, ![1536, 1]⟩
abbrev S1536 : Shape := ⟨1, ![1536]⟩

abbrev nBuf : Space → Nat
  | .hbm => 43
  | .vmem => 3
  | .smem => 0
  | _ => 0

abbrev bufTy : (tb : Table) → Fin (tcTables nBuf tb) → BufTy
  | .hbm, ⟨0, _⟩ => ⟨S1536x8192, .bf16⟩
  | .hbm, ⟨1, _⟩ => ⟨S12x128x8192, .bf16⟩
  | .hbm, ⟨2, _⟩ => ⟨S12x128x4096, .bf16⟩
  | .hbm, ⟨3, _⟩ => ⟨S12x128x8x2x256, .bf16⟩
  | .hbm, ⟨4, _⟩ => ⟨S12x128x2048, .bf16⟩
  | .hbm, ⟨5, _⟩ => ⟨S12x128x8x256, .bf16⟩
  | .hbm, ⟨6, _⟩ => ⟨S12x128x2048, .bf16⟩
  | .hbm, ⟨7, _⟩ => ⟨S12x128x8x256, .bf16⟩
  | .hbm, ⟨8, _⟩ => ⟨S12x8x128x128x2, .f32⟩
  | .hbm, ⟨9, _⟩ => ⟨S12x8x2x128x128, .f32⟩
  | .hbm, ⟨10, _⟩ => ⟨S_, .f32⟩
  | .hbm, ⟨11, _⟩ => ⟨S12x8x2x128x128, .f32⟩
  | .hbm, ⟨12, _⟩ => ⟨S12x8x2x128x128, .f32⟩
  | .hbm, ⟨13, _⟩ => ⟨S128, .i32⟩
  | .hbm, ⟨14, _⟩ => ⟨S1x128, .i32⟩
  | .hbm, ⟨15, _⟩ => ⟨S128x1, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S12x8x2x128x128, .i1⟩
  | .hbm, ⟨20, _⟩ => ⟨S_, .f32⟩
  | .hbm, ⟨21, _⟩ => ⟨S12x8x2x128x128, .f32⟩
  | .hbm, ⟨22, _⟩ => ⟨S12x8x2x128x128, .f32⟩
  | .hbm, ⟨23, _⟩ => ⟨S_, .f32⟩
  | .hbm, ⟨24, _⟩ => ⟨S12x8x2x128, .f32⟩
  | .hbm, ⟨25, _⟩ => ⟨S_, .f32⟩
  | .hbm, ⟨26, _⟩ => ⟨S12x8x2x128, .f32⟩
  | .hbm, ⟨27, _⟩ => ⟨S12x8x2x128, .f32⟩
  | .hbm, ⟨28, _⟩ => ⟨S12x8x2x128x1, .f32⟩
  | .hbm, ⟨29, _⟩ => ⟨S12x8x2x128x128, .f32⟩
  | .hbm, ⟨30, _⟩ => ⟨S12x8x2x128x128, .f32⟩
  | .hbm, ⟨31, _⟩ => ⟨S12x8x2x128x128, .f32⟩
  | .hbm, ⟨32, _⟩ => ⟨S_, .f32⟩
  | .hbm, ⟨33, _⟩ => ⟨S12x8x2x128, .f32⟩
  | .hbm, ⟨34, _⟩ => ⟨S12x8x2x128x1, .f32⟩
  | .hbm, ⟨35, _⟩ => ⟨S12x8x2x128x128, .f32⟩
  | .hbm, ⟨36, _⟩ => ⟨S12x8x2x128x128, .f32⟩
  | .hbm, ⟨37, _⟩ => ⟨S12x8x2x128x128, .bf16⟩
  | .hbm, ⟨38, _⟩ => ⟨S12x8x256x2x128, .f32⟩
  | .hbm, ⟨39, _⟩ => ⟨S12x128x8x2x256, .f32⟩
  | .hbm, ⟨40, _⟩ => ⟨S1536x4096, .f32⟩
  | .hbm, ⟨41, _⟩ => ⟨S1536x4096, .fp8e4m3⟩
  | .hbm, ⟨42, _⟩ => ⟨S1536x1, .f32⟩
  | .local _ .vmem, ⟨0, _⟩ => ⟨S1536x4096, .f32⟩
  | .local _ .vmem, ⟨1, _⟩ => ⟨S1536x4096, .fp8e4m3⟩
  | .local _ .vmem, ⟨2, _⟩ => ⟨S1536x1, .f32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_3 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35_0 : Ref sig .tc := ⟨.hbm, 41, rfl⟩
abbrev main_v35_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== OProj.lean ====
abbrev S1536x4096 : Shape := ⟨2, ![1536, 4096]⟩
abbrev S1536x1 : Shape := ⟨2, ![1536, 1]⟩
abbrev S4096x3584 : Shape := ⟨2, ![4096, 3584]⟩
abbrev S3584 : Shape := ⟨1, ![3584]⟩
abbrev S1x3584 : Shape := ⟨2, ![1, 3584]⟩
abbrev S1536x3584 : Shape := ⟨2, ![1536, 3584]⟩
abbrev S4096x512 : Shape := ⟨2, ![4096, 512]⟩
abbrev S1x512 : Shape := ⟨2, ![1, 512]⟩
abbrev S1536x512 : Shape := ⟨2, ![1536, 512]⟩

abbrev nBuf : Space → Nat
  | .hbm => 6
  | .vmem => 8
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S4096x3584, .fp8e4m3⟩
  | .hbm, ⟨3, _⟩ => ⟨S3584, .f32⟩
  | .hbm, ⟨4, _⟩ => ⟨S1x3584, .f32⟩
  | .hbm, ⟨5, _⟩ => ⟨S1536x3584, .f32⟩
  | .local _ .vmem, ⟨0, _⟩ => ⟨S1536x4096, .fp8e4m3⟩
  | .local _ .vmem, ⟨1, _⟩ => ⟨S1536x1, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S1x512, .f32⟩
  | .local _ .vmem, ⟨5, _⟩ => ⟨S1x512, .f32⟩
  | .local _ .vmem, ⟨6, _⟩ => ⟨S1536x512, .f32⟩
  | .local _ .vmem, ⟨7, _⟩ => ⟨S1536x512, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OProjRefIdeal.lean ====
abbrev S1536x4096 : Shape := ⟨2, ![1536, 4096]⟩
abbrev S1536x1 : Shape := ⟨2, ![1536, 1]⟩
abbrev S4096x3584 : Shape := ⟨2, ![4096, 3584]⟩
abbrev S3584 : Shape := ⟨1, ![3584]⟩
abbrev S1536x3584 : Shape := ⟨2, ![1536, 3584]⟩
abbrev S1x3584 : Shape := ⟨2, ![1, 3584]⟩

abbrev nBuf : Space → Nat
  | .hbm => 5
  | .vmem => 5
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S4096x3584, .fp8e4m3⟩
  | .hbm, ⟨3, _⟩ => ⟨S3584, .f32⟩
  | .hbm, ⟨4, _⟩ => ⟨S1536x3584, .f32⟩
  | .local _ .vmem, ⟨0, _⟩ => ⟨S1536x4096, .fp8e4m3⟩
  | .local _ .vmem, ⟨1, _⟩ => ⟨S1536x1, .f32⟩
  | .local _ .vmem, ⟨2, _⟩ => ⟨S4096x3584, .fp8e4m3⟩
  | .local _ .vmem, ⟨3, _⟩ => ⟨S3584, .f32⟩
  | .local _ .vmem, ⟨4, _⟩ => ⟨S1536x3584, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Mid.lean ====
abbrev S4x4 : Shape := ⟨2, ![4, 4]⟩
abbrev S4 : Shape := ⟨1, ![4]⟩
abbrev S3584 : Shape := ⟨1, ![3584]⟩
abbrev S12x128x4x3584 : Shape := ⟨4, ![12, 128, 4, 3584]⟩
abbrev S1536x3584 : Shape := ⟨2, ![1536, 3584]⟩
abbrev S1x3584 : Shape := ⟨2, ![1, 3584]⟩
abbrev S1536x1 : Shape := ⟨2, ![1536, 1]⟩
abbrev S1x64x4x3584 : Shape := ⟨4, ![1, 64, 4, 3584]⟩
abbrev S64x3584 : Shape := ⟨2, ![64, 3584]⟩
abbrev S64x1 : Shape := ⟨2, ![64, 1]⟩
abbrev S1x64x1x3584 : Shape := ⟨4, ![1, 64, 1, 3584]⟩
abbrev S1x1 : Shape := ⟨2, ![1, 1]⟩
abbrev S1 : Shape := ⟨1, ![1]⟩
abbrev S64 : Shape := ⟨1, ![64]⟩

abbrev nBuf : Space → Nat
  | .hbm => 9
  | .vmem => 9
  | .smem => 3
  | _ => 0

abbrev bufTy : (tb : Table) → Fin (tcTables nBuf tb) → BufTy
  | .hbm, ⟨0, _⟩ => ⟨S4x4, .f32⟩
  | .hbm, ⟨1, _⟩ => ⟨S4, .f32⟩
  | .hbm, ⟨2, _⟩ => ⟨S4, .f32⟩
  | .hbm, ⟨3, _⟩ => ⟨S3584, .f32⟩
  | .hbm, ⟨4, _⟩ => ⟨S12x128x4x3584, .bf16⟩
  | .hbm, ⟨5, _⟩ => ⟨S1536x3584, .f32⟩
  | .hbm, ⟨6, _⟩ => ⟨S1x3584, .f32⟩
  | .hbm, ⟨7, _⟩ => ⟨S1536x3584, .fp8e4m3⟩
  | .hbm, ⟨8, _⟩ => ⟨S1536x1, .f32⟩
  | .local _ .vmem, ⟨0, _⟩ => ⟨S1x3584, .f32⟩
  | .local _ .vmem, ⟨1, _⟩ => ⟨S1x64x4x3584, .bf16⟩
  | .local _ .vmem, ⟨2, _⟩ => ⟨S1x64x4x3584, .bf16⟩
  | .local _ .vmem, ⟨3, _⟩ => ⟨S64x3584, .f32⟩
  | .local _ .vmem, ⟨4, _⟩ => ⟨S64x3584, .f32⟩
  | .local _ .vmem, ⟨5, _⟩ => ⟨S64x3584, .fp8e4m3⟩
  | .local _ .vmem, ⟨6, _⟩ => ⟨S64x3584, .fp8e4m3⟩
  | .local _ .vmem, ⟨7, _⟩ => ⟨S64x1, .f32⟩
  | .local _ .vmem, ⟨8, _⟩ => ⟨S64x1, .f32⟩
  | .local _ .smem, ⟨0, _⟩ => ⟨S4x4, .f32⟩
  | .local _ .smem, ⟨1, _⟩ => ⟨S4, .f32⟩
  | .local _ .smem, ⟨2, _⟩ => ⟨S4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x4x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MidRefIdeal.lean ====
abbrev S4x4 : Shape := ⟨2, ![4, 4]⟩
abbrev S4 : Shape := ⟨1, ![4]⟩
abbrev S3584 : Shape := ⟨1, ![3584]⟩
abbrev S12x128x4x3584 : Shape := ⟨4, ![12, 128, 4, 3584]⟩
abbrev S1536x3584 : Shape := ⟨2, ![1536, 3584]⟩
abbrev S12x128x3584 : Shape := ⟨3, ![12, 128, 3584]⟩
abbrev S4x12x128x3584 : Shape := ⟨4, ![4, 12, 128, 3584]⟩
abbrev S4x1 : Shape := ⟨2, ![4, 1]⟩
abbrev S12x128x1x3584 : Shape := ⟨4, ![12, 128, 1, 3584]⟩
abbrev S1x1x4x1 : Shape := ⟨4, ![1, 1, 4, 1]⟩
abbrev S_ : Shape := ⟨0, ![]⟩
abbrev S12x128 : Shape := ⟨2, ![12, 128]⟩
abbrev S12x128x1 : Shape := ⟨3, ![12, 128, 1]⟩
abbrev S1x1x3584 : Shape := ⟨3, ![1, 1, 3584]⟩
abbrev S1536x1 : Shape := ⟨2, ![1536, 1]⟩
abbrev S1536 : Shape := ⟨1, ![1536]⟩

abbrev nBuf : Space → Nat
  | .hbm => 37
  | .vmem => 3
  | .smem => 0
  | _ => 0

abbrev bufTy : (tb : Table) → Fin (tcTables nBuf tb) → BufTy
  | .hbm, ⟨0, _⟩ => ⟨S4x4, .f32⟩
  | .hbm, ⟨1, _⟩ => ⟨S4, .f32⟩
  | .hbm, ⟨2, _⟩ => ⟨S4, .f32⟩
  | .hbm, ⟨3, _⟩ => ⟨S3584, .f32⟩
  | .hbm, ⟨4, _⟩ => ⟨S12x128x4x3584, .bf16⟩
  | .hbm, ⟨5, _⟩ => ⟨S1536x3584, .f32⟩
  | .hbm, ⟨6, _⟩ => ⟨S12x128x4x3584, .f32⟩
  | .hbm, ⟨7, _⟩ => ⟨S12x128x3584, .f32⟩
  | .hbm, ⟨8, _⟩ => ⟨S4x12x128x3584, .f32⟩
  | .hbm, ⟨9, _⟩ => ⟨S12x128x4x3584, .f32⟩
  | .hbm, ⟨10, _⟩ => ⟨S4x1, .f32⟩
  | .hbm, ⟨11, _⟩ => ⟨S12x128x1x3584, .f32⟩
  | .hbm, ⟨12, _⟩ => ⟨S1x1x4x1, .f32⟩
  | .hbm, ⟨13, _⟩ => ⟨S12x128x4x3584, .f32⟩
  | .hbm, ⟨14, _⟩ => ⟨S12x128x4x3584, .f32⟩
  | .hbm, ⟨15, _⟩ => ⟨S12x128x4x3584, .f32⟩
  | .hbm, ⟨16, _⟩ => ⟨S12x128x4x3584, .f32⟩
  | .hbm, ⟨17, _⟩ => ⟨S12x128x3584, .f32⟩
  | .hbm, ⟨18, _⟩ => ⟨S12x128x3584, .f32⟩
  | .hbm, ⟨19, _⟩ => ⟨S_, .f32⟩
  | .hbm, ⟨20, _⟩ => ⟨S12x128, .f32⟩
  | .hbm, ⟨21, _⟩ => ⟨S12x128x1, .f32⟩
  | .hbm, ⟨22, _⟩ => ⟨S_, .f32⟩
  | .hbm, ⟨23, _⟩ => ⟨S12x128x1, .f32⟩
  | .hbm, ⟨24, _⟩ => ⟨S12x128x1, .f32⟩
  | .hbm, ⟨25, _⟩ => ⟨S_, .f32⟩
  | .hbm, ⟨26, _⟩ => ⟨S12x128x1, .f32⟩
  | .hbm, ⟨27, _⟩ => ⟨S12x128x1, .f32⟩
  | .hbm, ⟨28, _⟩ => ⟨S12x128x1, .f32⟩
  | .hbm, ⟨29, _⟩ => ⟨S12x128x3584, .f32⟩
  | .hbm, ⟨30, _⟩ => ⟨S12x128x3584, .f32⟩
  | .hbm, ⟨31, _⟩ => ⟨S1x1x3584, .f32⟩
  | .hbm, ⟨32, _⟩ => ⟨S12x128x3584, .f32⟩
  | .hbm, ⟨33, _⟩ => ⟨S12x128x3584, .f32⟩
  | .hbm, ⟨34, _⟩ => ⟨S1536x3584, .f32⟩
  | .hbm, ⟨35, _⟩ => ⟨S1536x3584, .fp8e4m3⟩
  | .hbm, ⟨36, _⟩ => ⟨S1536x1, .f32⟩
  | .local _ .vmem, ⟨0, _⟩ => ⟨S1536x3584, .f32⟩
  | .local _ .vmem, ⟨1, _⟩ => ⟨S1536x3584, .fp8e4m3⟩
  | .local _ .vmem, ⟨2, _⟩ => ⟨S1536x1, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GateUp.lean ====
abbrev S1536x3584 : Shape := ⟨2, ![1536, 3584]⟩
abbrev S1536x1 : Shape := ⟨2, ![1536, 1]⟩
abbrev S3584x14336 : Shape := ⟨2, ![3584, 14336]⟩
abbrev S14336 : Shape := ⟨1, ![14336]⟩
abbrev S1x14336 : Shape := ⟨2, ![1, 14336]⟩
abbrev S1536x14336 : Shape := ⟨2, ![1536, 14336]⟩
abbrev S3584x512 : Shape := ⟨2, ![3584, 512]⟩
abbrev S1x512 : Shape := ⟨2, ![1, 512]⟩
abbrev S1536x512 : Shape := ⟨2, ![1536, 512]⟩

abbrev nBuf : Space → Nat
  | .hbm => 9
  | .vmem => 12
  | .smem => 0
  | _ => 0

abbrev bufTy : (tb : Table) → Fin (tcTables nBuf tb) → BufTy
  | .hbm, ⟨0, _⟩ => ⟨S1536x3584, .fp8e4m3⟩
  | .hbm, ⟨1, _⟩ => ⟨S1536x1, .f32⟩
  | .hbm, ⟨2, _⟩ => ⟨S3584x14336, .fp8e4m3⟩
  | .hbm, ⟨3, _⟩ => ⟨S14336, .f32⟩
  | .hbm, ⟨4, _⟩ => ⟨S3584x14336, .fp8e4m3⟩
  | .hbm, ⟨5, _⟩ => ⟨S14336, .f32⟩
  | .hbm, ⟨6, _⟩ => ⟨S1x14336, .f32⟩
  | .hbm, ⟨7, _⟩ => ⟨S1x14336, .f32⟩
  | .hbm, ⟨8, _⟩ => ⟨S1536x14336, .f32⟩
  | .local _ .vmem, ⟨0, _⟩ => ⟨S1536x3584, .fp8e4m3⟩
  | .local _ .vmem, ⟨1, _⟩ => ⟨S1536x1, .f32⟩
  | .local _ .vmem, ⟨2, _⟩ => ⟨S3584x512, .fp8e4m3⟩
  | .local _ .vmem, ⟨3, _⟩ => ⟨S3584x512, .fp8e4m3⟩
  | .local _ .vmem, ⟨4, _⟩ => ⟨S1x512, .f32⟩
  | .local _ .vmem, ⟨5, _⟩ => ⟨S1x512, .f32⟩
  | .local _ .vmem, ⟨6, _⟩ => ⟨S3584x512, .fp8e4m3⟩
  | .local _ .vmem, ⟨7, _⟩ => ⟨S3584x512, .fp8e4m3⟩
  | .local _ .vmem, ⟨8, _⟩ => ⟨S1x512, .f32⟩
  | .local _ .vmem, ⟨9, _⟩ => ⟨S1x512, .f32⟩
  | .local _ .vmem, ⟨10, _⟩ => ⟨S1536x512, .f32⟩
  | .local _ .vmem, ⟨11, _⟩ => ⟨S1536x512, .f32⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S1536x3584 : Shape := ⟨2, ![1536, 3584]⟩
abbrev S1536x1 : Shape := ⟨2, ![1536, 1]⟩
abbrev S3584x14336 : Shape := ⟨2, ![3584, 14336]⟩
abbrev S14336 : Shape := ⟨1, ![14336]⟩
abbrev S1536x14336 : Shape := ⟨2, ![1536, 14336]⟩
abbrev S1x14336 : Shape := ⟨2, ![1, 14336]⟩

abbrev nBuf : Space → Nat
  | .hbm => 7
  | .vmem => 7
  | .smem => 0
  | _ => 0

abbrev bufTy : (tb : Table) → Fin (tcTables nBuf tb) → BufTy
  | .hbm, ⟨0, _⟩ => ⟨S1536x3584, .fp8e4m3⟩
  | .hbm, ⟨1, _⟩ => ⟨S1536x1, .f32⟩
  | .hbm, ⟨2, _⟩ => ⟨S3584x14336, .fp8e4m3⟩
  | .hbm, ⟨3, _⟩ => ⟨S14336, .f32⟩
  | .hbm, ⟨4, _⟩ => ⟨S3584x14336, .fp8e4m3⟩
  | .hbm, ⟨5, _⟩ => ⟨S14336, .f32⟩
  | .hbm, ⟨6, _⟩ => ⟨S1536x14336, .f32⟩
  | .local _ .vmem, ⟨0, _⟩ => ⟨S1536x3584, .fp8e4m3⟩
  | .local _ .vmem, ⟨1, _⟩ => ⟨S1536x1, .f32⟩
  | .local _ .vmem, ⟨2, _⟩ => ⟨S3584x14336, .fp8e4m3⟩
  | .local _ .vmem, ⟨3, _⟩ => ⟨S14336, .f32⟩
  | .local _ .vmem, ⟨4, _⟩ => ⟨S3584x14336, .fp8e4m3⟩
  | .local _ .vmem, ⟨5, _⟩ => ⟨S14336, .f32⟩
  | .local _ .vmem, ⟨6, _⟩ => ⟨S1536x14336, .f32⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quant.lean ====
abbrev S1536x14336 : Shape := ⟨2, ![1536, 14336]⟩
abbrev S1536x1 : Shape := ⟨2, ![1536, 1]⟩
abbrev S64x14336 : Shape := ⟨2, ![64, 14336]⟩
abbrev S64x1 : Shape := ⟨2, ![64, 1]⟩
abbrev S64 : Shape := ⟨1, ![64]⟩

abbrev nBuf : Space → Nat
  | .hbm => 3
  | .vmem => 6
  | .smem => 0
  | _ => 0

abbrev bufTy : (tb : Table) → Fin (tcTables nBuf tb) → BufTy
  | .hbm, ⟨0, _⟩ => ⟨S1536x14336, .f32⟩
  | .hbm, ⟨1, _⟩ => ⟨S1536x14336, .fp8e4m3⟩
  | .hbm, ⟨2, _⟩ => ⟨S1536x1, .f32⟩
  | .local _ .vmem, ⟨0, _⟩ => ⟨S64x14336, .f32⟩
  | .local _ .vmem, ⟨1, _⟩ => ⟨S64x14336, .f32⟩
  | .local _ .vmem, ⟨2, _⟩ => ⟨S64x14336, .fp8e4m3⟩
  | .local _ .vmem, ⟨3, _⟩ => ⟨S64x14336, .fp8e4m3⟩
  | .local _ .vmem, ⟨4, _⟩ => ⟨S64x1, .f32⟩
  | .local _ .vmem, ⟨5, _⟩ => ⟨S64x1, .f32⟩
  | _, _ => ⟨S1536x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x14336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x14336 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRefIdeal.lean ====
abbrev S1536x14336 : Shape := ⟨2, ![1536, 14336]⟩
abbrev S1536x1 : Shape := ⟨2, ![1536, 1]⟩
abbrev S1536 : Shape := ⟨1, ![1536]⟩

abbrev nBuf : Space → Nat
  | .hbm => 3
  | .vmem => 3
  | .smem => 0
  | _ => 0

abbrev bufTy : (tb : Table) → Fin (tcTables nBuf tb) → BufTy
  | .hbm, ⟨0, _⟩ => ⟨S1536x14336, .f32⟩
  | .hbm, ⟨1, _⟩ => ⟨S1536x14336, .fp8e4m3⟩
  | .hbm, ⟨2, _⟩ => ⟨S1536x1, .f32⟩
  | .local _ .vmem, ⟨0, _⟩ => ⟨S1536x14336, .f32⟩
  | .local _ .vmem, ⟨1, _⟩ => ⟨S1536x14336, .fp8e4m3⟩
  | .local _ .vmem, ⟨2, _⟩ => ⟨S1536x1, .f32⟩
  | _, _ => ⟨S1536x14336, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Down.lean ====
abbrev S1536x14336 : Shape := ⟨2, ![1536, 14336]⟩
abbrev S1536x1 : Shape := ⟨2, ![1536, 1]⟩
abbrev S14336x3584 : Shape := ⟨2, ![14336, 3584]⟩
abbrev S3584 : Shape := ⟨1, ![3584]⟩
abbrev S1x3584 : Shape := ⟨2, ![1, 3584]⟩
abbrev S1536x3584 : Shape := ⟨2, ![1536, 3584]⟩
abbrev S512x14336 : Shape := ⟨2, ![512, 14336]⟩
abbrev S512x1 : Shape := ⟨2, ![512, 1]⟩
abbrev S14336x512 : Shape := ⟨2, ![14336, 512]⟩
abbrev S1x512 : Shape := ⟨2, ![1, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S1536x14336, .fp8e4m3⟩
  | .hbm, ⟨1, _⟩ => ⟨S1536x1, .f32⟩
  | .hbm, ⟨2, _⟩ => ⟨S14336x3584, .fp8e4m3⟩
  | .hbm, ⟨3, _⟩ => ⟨S3584, .f32⟩
  | .hbm, ⟨4, _⟩ => ⟨S1x3584, .f32⟩
  | .hbm, ⟨5, _⟩ => ⟨S1536x3584, .f32⟩
  | .local _ .vmem, ⟨0, _⟩ => ⟨S512x14336, .fp8e4m3⟩
  | .local _ .vmem, ⟨1, _⟩ => ⟨S512x14336, .fp8e4m3⟩
  | .local _ .vmem, ⟨2, _⟩ => ⟨S512x1, .f32⟩
  | .local _ .vmem, ⟨3, _⟩ => ⟨S512x1, .f32⟩
  | .local _ .vmem, ⟨4, _⟩ => ⟨S14336x512, .fp8e4m3⟩
  | .local _ .vmem, ⟨5, _⟩ => ⟨S14336x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S1536x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S1536x14336 : Shape := ⟨2, ![1536, 14336]⟩
abbrev S1536x1 : Shape := ⟨2, ![1536, 1]⟩
abbrev S14336x3584 : Shape := ⟨2, ![14336, 3584]⟩
abbrev S3584 : Shape := ⟨1, ![3584]⟩
abbrev S1536x3584 : Shape := ⟨2, ![1536, 3584]⟩
abbrev S1x3584 : Shape := ⟨2, ![1, 3584]⟩

abbrev nBuf : Space → Nat
  | .hbm => 5
  | .vmem => 5
  | .smem => 0
  | _ => 0

abbrev bufTy : (tb : Table) → Fin (tcTables nBuf tb) → BufTy
  | .hbm, ⟨0, _⟩ => ⟨S1536x14336, .fp8e4m3⟩
  | .hbm, ⟨1, _⟩ => ⟨S1536x1, .f32⟩
  | .hbm, ⟨2, _⟩ => ⟨S14336x3584, .fp8e4m3⟩
  | .hbm, ⟨3, _⟩ => ⟨S3584, .f32⟩
  | .hbm, ⟨4, _⟩ => ⟨S1536x3584, .f32⟩
  | .local _ .vmem, ⟨0, _⟩ => ⟨S1536x14336, .fp8e4m3⟩
  | .local _ .vmem, ⟨1, _⟩ => ⟨S1536x1, .f32⟩
  | .local _ .vmem, ⟨2, _⟩ => ⟨S14336x3584, .fp8e4m3⟩
  | .local _ .vmem, ⟨3, _⟩ => ⟨S3584, .f32⟩
  | .local _ .vmem, ⟨4, _⟩ => ⟨S1536x3584, .f32⟩
  | _, _ => ⟨S1536x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.QuantiserScale.lean ====
/- The quantiser's power of two. For a row's y = max|v| / 448 the kernel finds the exponent by comparing y with powers
   of two, one bit of the exponent at a time, and builds 2^e and 2^(-e) from bits; the reference takes
   floor(log2 y) + 1. Both give the same two scales for every y up to 2^125. -/
module

public import Idealize.ShloMosaic.Lib.Pipeline.ValueKit
public import Idealize.ShloMosaic.Lib.Pointwise

@[expose] public section

noncomputable section

open Idealize.ShloMosaic

namespace Cert.Quantiser

/-- The float whose exponent field is `n` and whose fraction is zero. -/
def thr (n : Nat) : EReal := Ideal.ofBits .f32 (BitVec.ofNat 32 n <<< 23)

/-- The fields of the word `n <<< 23`. -/
theorem fields : ∀ n : Fin 255, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

/-- The float of a word with a clear sign, exponent field `n`, zero fraction: normal. -/
theorem ieee_normal (b : BitVec 32) (n : Nat) (h1 : b.extractLsb' 31 1 = 0#1) (h2 : (b.extractLsb' 23 8).toNat = n)
    (h3 : (b.extractLsb' 0 23).toNat = 0) (h0 : 0 < n) (h : n < 255) :
    Ideal.ieee 8 23 b = (((2 : ℝ) ^ ((n : ℤ) - 127) : ℝ) : EReal) := by
  have e1 : Ideal.ieee 8 23 b = (((if b.extractLsb' 31 1 == 1#1 then (-1 : ℝ) else 1)
      * (2 ^ 23 + (b.extractLsb' 0 23).toNat : Nat) * (2 : ℝ) ^ (((b.extractLsb' 23 8).toNat : ℤ) - (2 ^ (8 - 1) - 1) - (23 : ℕ)) : ℝ) : EReal) := by
    unfold Ideal.ieee
    rw [if_neg (by rw [h2]; omega), if_neg (by rw [h2]; omega)]
  rw [e1, h1, h2, h3]
  congr 1
  rw [show ((0#1 : BitVec 1) == 1#1) = false from rfl]
  simp only [Bool.false_eq_true, if_false, one_mul, Nat.add_zero]
  rw [show (((2 ^ 23 : Nat) : ℝ)) = (2 : ℝ) ^ (23 : ℤ) by norm_num, ← zpow_add₀ (by norm_num)]
  congr 1
  push_cast
  ring

/-- The float of a word with a clear sign, all-ones exponent field and zero fraction: the infinity. -/
theorem ieee_top (b : BitVec 32) (h1 : b.extractLsb' 31 1 = 0#1) (h2 : (b.extractLsb' 23 8).toNat = 255)
    (h3 : (b.extractLsb' 0 23).toNat = 0) : Ideal.ieee 8 23 b = ⊤ := by
  unfold Ideal.ieee
  rw [if_pos (by rw [h2]; norm_num), if_pos (by rw [h3]), h1]
  rfl

/-- For a normal exponent field `n` that float is 2^(n - 127). -/
theorem thr_eq (n : Nat) (h0 : 0 < n) (h : n < 255) : thr n = (((2 : ℝ) ^ ((n : ℤ) - 127) : ℝ) : EReal) :=
  have hf := fields ⟨n, h⟩
  ieee_normal _ n hf.1 hf.2.1 hf.2.2 h0 h

/-- The all-ones exponent field is the infinity. -/
theorem thr_top : thr 255 = ⊤ := ieee_top (BitVec.ofNat 32 255 <<< 23) (by decide +kernel) (by decide +kernel) (by decide +kernel)

/-- The thresholds increase. -/
theorem thr_mono (a b : Nat) (h0 : 0 < a) (hab : a ≤ b) (hb : b ≤ 255) : thr a ≤ thr b := by
  rcases Nat.lt_or_ge b 255 with h | h
  · rw [thr_eq a h0 (by omega), thr_eq b (by omega) h]
    exact EReal.coe_le_coe_iff.mpr (zpow_le_zpow_right₀ (by norm_num) (by omega))
  · obtain rfl : b = 255 := by omega
    rw [thr_top]; exact le_top

/-- One step of the search: keep the bit when the float with that exponent field is at most `y`. -/
def step (y : EReal) (b ex : BitVec 32) : BitVec 32 :=
  Scalar.select (Ideal.cmp .oge y (Ideal.ofBits .f32 (IntOp.shli .vector (IntOp.addi ex b) 23#32))) (IntOp.addi ex b) ex

/-- The search over the eight bits of the exponent field. -/
def search (y : EReal) : BitVec 32 :=
  step y 1#32 (step y 2#32 (step y 4#32 (step y 8#32 (step y 16#32 (step y 32#32 (step y 64#32 (step y 128#32 0#32)))))))

/-- A step on exponent fields written as numbers. -/
theorem step_eq (y : EReal) (n b : Nat) :
    step y (BitVec.ofNat 32 b) (BitVec.ofNat 32 n) = BitVec.ofNat 32 (if thr (n + b) ≤ y then n + b else n) := by
  unfold step
  have ha : IntOp.addi (BitVec.ofNat 32 n) (BitVec.ofNat 32 b) = BitVec.ofNat 32 (n + b) := (BitVec.ofNat_add n b).symm
  have hs : IntOp.shli .vector (BitVec.ofNat 32 (n + b)) 23#32 = BitVec.ofNat 32 (n + b) <<< 23 := rfl
  rw [ha, hs]
  show Scalar.select (BitVec.ofBool (decide (thr (n + b) ≤ y))) _ _ = _
  by_cases h : thr (n + b) ≤ y
  · rw [if_pos h, decide_eq_true h]; rfl
  · rw [if_neg h, decide_eq_false h]; rfl

/-- What holds of the exponent field `n` found so far, with the bits under `b` still to come. -/
def Inv (y : EReal) (n b : Nat) : Prop :=
  (n = 0 ∨ thr n ≤ y) ∧ (∀ k, n + b ≤ k → k ≤ 255 → y < thr k) ∧ n + b ≤ 256

/-- A step keeps it. -/
theorem step_inv (y : EReal) (b : Nat) (hb : 0 < b) (x : BitVec 32) (h : ∃ n, x = BitVec.ofNat 32 n ∧ Inv y n (2 * b)) :
    ∃ n, step y (BitVec.ofNat 32 b) x = BitVec.ofNat 32 n ∧ Inv y n b := by
  obtain ⟨n, rfl, h1, h2, h3⟩ := h
  refine ⟨_, step_eq y n b, ?_⟩
  split
  · rename_i hc
    exact ⟨.inr hc, fun k hk hk' => h2 k (by omega) hk', by omega⟩
  · rename_i hc
    exact ⟨h1, fun k hk hk' => lt_of_lt_of_le (not_le.mp hc) (thr_mono _ _ (by omega) hk hk'), by omega⟩

/-- The search finds the exponent field of the greatest power of two at most `y`. -/
theorem search_spec (y : EReal) : ∃ n, search y = BitVec.ofNat 32 n ∧ Inv y n 1 :=
  step_inv y 1 (by omega) _ (step_inv y 2 (by omega) _ (step_inv y 4 (by omega) _ (step_inv y 8 (by omega) _
    (step_inv y 16 (by omega) _ (step_inv y 32 (by omega) _ (step_inv y 64 (by omega) _ (step_inv y 128 (by omega) _
      ⟨0, rfl, .inl rfl, fun k hk hk' => by omega, by omega⟩)))))))

/-- The kernel's exponent e: zero when the exponent field is zero. -/
def kexp (y : EReal) : BitVec 32 :=
  Scalar.select (IntOp.cmpi .eq (search y) 0#32) 0#32 (IntOp.subi (search y) 126#32)

/-- The kernel's scale, 2^e built from bits. -/
def kscale (y : EReal) : EReal := Ideal.ofBits .f32 (IntOp.shli .vector (IntOp.addi (kexp y) 127#32) 23#32)

/-- The kernel's inverse scale, 2^(-e) built from bits. -/
def kinv (y : EReal) : EReal := Ideal.ofBits .f32 (IntOp.shli .vector (IntOp.subi 127#32 (kexp y)) 23#32)

/-- The reference's exponent e. -/
def rexp (y : EReal) : EReal :=
  Scalar.select (Ideal.cmp .olt y (Ideal.ofBits .f32 0x00800000#32)) (Ideal.ofBits .f32 0x00000000#32)
    (Ideal.liftRound Int.floor (Ideal.div (Ideal.log y) (Ideal.log (Ideal.ofBits .f32 0x40000000#32)))
      + Ideal.ofBits .f32 0x3F800000#32)

/-- The four constants. -/
theorem c_min : Ideal.ofBits .f32 0x00800000#32 = thr 1 := rfl
theorem c_two : Ideal.ofBits .f32 0x40000000#32 = ((2 : ℝ) : EReal) :=
  (thr_eq 128 (by omega) (by omega)).trans (by norm_num)
theorem c_one : Ideal.ofBits .f32 0x3F800000#32 = ((1 : ℝ) : EReal) :=
  (thr_eq 127 (by omega) (by omega)).trans (by norm_num)
theorem c_cap : Ideal.ofBits .f32 0x7E000000#32 = thr 252 := rfl

/-- floor(log2 y) for a `y` between two neighbouring powers of two. -/
theorem floor_log (r : ℝ) (e : ℤ) (h1 : (2 : ℝ) ^ e ≤ r) (h2 : r < (2 : ℝ) ^ (e + 1)) :
    Ideal.liftRound Int.floor (Ideal.div (Ideal.log (r : EReal)) (Ideal.log ((2 : ℝ) : EReal))) = ((e : ℝ) : EReal) := by
  have hr : 0 < r := lt_of_lt_of_le (by positivity) h1
  have hl : 0 < Real.log 2 := Real.log_pos (by norm_num)
  rw [Ideal.log_coe, Ideal.log_coe, if_neg (not_le.mpr hr), if_neg (by norm_num)]
  unfold Ideal.div
  rw [if_neg (by exact_mod_cast hl.ne'), ← EReal.coe_inv, ← EReal.coe_mul, Ideal.liftRound_coe]
  congr 2
  rw [Int.floor_eq_iff, ← div_eq_mul_inv]
  constructor
  · rw [le_div_iff₀ hl, ← Real.log_zpow]
    exact Real.log_le_log (by positivity) h1
  · rw [div_lt_iff₀ hl, show ((e : ℝ) + 1) = ((e + 1 : ℤ) : ℝ) by push_cast; ring, ← Real.log_zpow]
    exact Real.log_lt_log hr h2

/-- The two exponents agree: one number `k` with `e = k` on both sides, in range. -/
theorem exponent (y : EReal) (hy : y ≤ Ideal.ofBits .f32 0x7E000000#32) :
    ∃ k : ℕ, k ≤ 251 ∧ kexp y = BitVec.ofNat 32 k - 125#32 ∧ rexp y = ((((k : ℤ) - 125 : ℤ) : ℝ) : EReal) := by
  obtain ⟨n, hn, h1, h2, h3⟩ := search_spec y
  rw [c_cap] at hy
  have hn' : n ≤ 252 := by
    by_contra h
    rcases h1 with h1 | h1
    · omega
    · have h4 := (thr_mono 253 n (by omega) (by omega) (by omega)).trans (h1.trans hy)
      rw [thr_eq 253 (by omega) (by omega), thr_eq 252 (by omega) (by omega), EReal.coe_le_coe_iff] at h4
      exact absurd h4 (not_le.mpr (zpow_lt_zpow_right₀ (by norm_num) (by norm_num)))
  rcases Nat.eq_zero_or_pos n with h0 | h0
  · subst h0
    refine ⟨125, by omega, by unfold kexp; rw [hn]; rfl, ?_⟩
    unfold rexp
    rw [c_min]
    show Scalar.select (BitVec.ofBool (decide (y < thr 1))) _ _ = _
    rw [decide_eq_true (h2 1 (by omega) (by omega))]
    show Ideal.ofBits .f32 0x00000000#32 = _
    rw [Ideal.ofBits_zero_f32]
    norm_num
  · have hle : thr n ≤ y := h1.resolve_left (by omega)
    have hlt : y < thr (n + 1) := h2 (n + 1) (by omega) (by omega)
    refine ⟨n - 1, by omega, ?_, ?_⟩
    · unfold kexp
      rw [hn]
      have hne : (BitVec.ofNat 32 n == 0#32) = false := by
        apply beq_eq_false_iff_ne.mpr
        intro h
        have := congrArg BitVec.toNat h
        simp only [BitVec.toNat_ofNat] at this
        omega
      show Scalar.select (BitVec.ofBool (BitVec.ofNat 32 n == 0#32)) _ _ = _
      rw [hne]
      show BitVec.ofNat 32 n - 126#32 = _
      apply BitVec.eq_of_toNat_eq
      simp only [BitVec.toNat_sub, BitVec.toNat_ofNat]
      omega
    · rw [thr_eq n h0 (by omega)] at hle
      rw [thr_eq (n + 1) (by omega) (by omega)] at hlt
      have hmin : ¬ y < thr 1 := by
        rw [thr_eq 1 (by omega) (by omega)]
        refine not_lt.mpr (le_trans (EReal.coe_le_coe_iff.mpr ?_) hle)
        exact zpow_le_zpow_right₀ (by norm_num) (by omega)
      unfold rexp
      rw [c_min, c_two, c_one]
      show Scalar.select (BitVec.ofBool (decide (y < thr 1))) _ _ = _
      rw [decide_eq_false hmin]
      show Ideal.liftRound Int.floor _ + _ = _
      induction y using EReal.rec with
      | bot => simp at hle
      | top => simp at hlt
      | coe r =>
        rw [EReal.coe_le_coe_iff] at hle
        rw [EReal.coe_lt_coe_iff] at hlt
        rw [floor_log r ((n : ℤ) - 127) hle (by convert hlt using 2; push_cast; ring), ← EReal.coe_add]
        congr 1
        rw [Nat.cast_sub (by omega)]
        push_cast
        ring

/-- The kernel's scale is the reference's. -/
theorem kscale_eq (y : EReal) (hy : y ≤ Ideal.ofBits .f32 0x7E000000#32) : kscale y = Ideal.exp2 (rexp y) := by
  obtain ⟨k, hk, h1, h2⟩ := exponent y hy
  unfold kscale
  rw [h1, h2, Ideal.exp2_coe]
  have e : IntOp.addi (BitVec.ofNat 32 k - 125#32) 127#32 = BitVec.ofNat 32 (k + 2) := by
    show BitVec.ofNat 32 k - 125#32 + 127#32 = _
    apply BitVec.eq_of_toNat_eq
    simp only [BitVec.toNat_sub, BitVec.toNat_add, BitVec.toNat_ofNat]
    omega
  rw [e]
  show thr (k + 2) = _
  rw [thr_eq (k + 2) (by omega) (by omega)]
  congr 1
  show _ = (2 : ℝ) ^ (((k : ℤ) - 125 : ℤ) : ℝ)
  rw [Real.rpow_intCast]
  congr 1
  push_cast
  ring

/-- The kernel's inverse scale is the reference's. -/
theorem kinv_eq (y : EReal) (hy : y ≤ Ideal.ofBits .f32 0x7E000000#32) :
    kinv y = Ideal.exp2 (Ideal.ofBits .f32 0x00000000#32 - rexp y) := by
  obtain ⟨k, hk, h1, h2⟩ := exponent y hy
  unfold kinv
  rw [h1, h2, Ideal.ofBits_zero_f32, zero_sub, ← EReal.coe_neg, Ideal.exp2_coe]
  have e : IntOp.subi 127#32 (BitVec.ofNat 32 k - 125#32) = BitVec.ofNat 32 (252 - k) := by
    show 127#32 - (BitVec.ofNat 32 k - 125#32) = _
    apply BitVec.eq_of_toNat_eq
    simp only [BitVec.toNat_sub, BitVec.toNat_ofNat]
    omega
  rw [e]
  show thr (252 - k) = _
  rw [thr_eq (252 - k) (by omega) (by omega)]
  congr 1
  rw [show (-((((k : ℤ) - 125 : ℤ) : ℝ))) = ((125 - (k : ℤ) : ℤ) : ℝ) by push_cast; ring]
  show _ = (2 : ℝ) ^ ((125 - (k : ℤ) : ℤ) : ℝ)
  rw [Real.rpow_intCast]
  congr 1
  rw [Nat.cast_sub (by omega)]
  push_cast
  ring

/-- The reference's exponent as a case distinction. -/
theorem rexp_if (y : EReal) : rexp y = if y < Ideal.ofBits .f32 0x00800000#32 then 0 else
    Ideal.liftRound Int.floor (Ideal.div (Ideal.log y) (Ideal.log (Ideal.ofBits .f32 0x40000000#32))) + 1 := by
  unfold rexp
  rw [Ideal.ofBits_zero_f32, show Ideal.ofBits .f32 0x3F800000#32 = 1 from c_one.trans rfl]
  show Scalar.select (BitVec.ofBool (decide (y < Ideal.ofBits .f32 0x00800000#32))) _ _ = _
  by_cases h : y < Ideal.ofBits .f32 0x00800000#32
  · rw [if_pos h, decide_eq_true h]; rfl
  · rw [if_neg h, decide_eq_false h]; rfl

/-- The greater of two extended reals. -/
abbrev emax : EReal → EReal → EReal :=
  @max (Ideal .f32) (@SemilatticeSup.toMax _ (@Lattice.toSemilatticeSup _ (@ConditionallyCompleteLattice.toLattice _
    (@ConditionallyCompleteLinearOrder.toConditionallyCompleteLattice _
      (@ConditionallyCompleteLinearOrderBot.toConditionallyCompleteLinearOrder _
        (@CompleteLinearOrder.toConditionallyCompleteLinearOrderBot _ instCompleteLinearOrderEReal))))))

/-- A row's y: its greatest absolute value over 448, cut off at 2^125. -/
def rowY {n : Nat} (f : Fin n → EReal) : EReal :=
  min (Finset.fold emax (Ideal.ofBits .f32 0xFF800000#32) (fun k => FloatOps.absf (F := Ideal) (φ := .f32) (f k)) Finset.univ
    * Ideal.ofBits .f32 0x3B124925#32) (Ideal.ofBits .f32 0x7E000000#32)

theorem rowY_le {n : Nat} (f : Fin n → EReal) : rowY f ≤ Ideal.ofBits .f32 0x7E000000#32 := min_le_right _ _

/-- A row's scale, 2^e. -/
def rowScale {n : Nat} (f : Fin n → EReal) : EReal := Ideal.exp2 (rexp (rowY f))

/-- A row's inverse scale, 2^(-e). -/
def rowInv {n : Nat} (f : Fin n → EReal) : EReal := Ideal.exp2 (Ideal.ofBits .f32 0x00000000#32 - rexp (rowY f))

/-- A row's code for the value `v`: `v` times the inverse scale, clipped at 448. -/
def rowCode {n : Nat} (f : Fin n → EReal) (v : EReal) : EReal :=
  min (Ideal.ofBits .f32 0x43E00000#32) (max (Ideal.ofBits .f32 0xC3E00000#32) (v * rowInv f))

/-! ### The same on whole vectors -/

/-- One step of the search, at every index. -/
def stepV {S : Shape} (y : FVec Ideal S .f32) (b : BitVec 32) (ex : IVec S 32) : IVec S 32 :=
  select (cmpf .oge y (bitcastToFloat .f32 (shli (addi ex (broadcast S b)) (broadcast S 23#32)))) (addi ex (broadcast S b)) ex

/-- The search, at every index. -/
def searchV {S : Shape} (y : FVec Ideal S .f32) : IVec S 32 :=
  stepV y 1#32 (stepV y 2#32 (stepV y 4#32 (stepV y 8#32 (stepV y 16#32 (stepV y 32#32 (stepV y 64#32
    (stepV y 128#32 (broadcast S 0#32))))))))

/-- The exponent, at every index. -/
def kexpV {S : Shape} (y : FVec Ideal S .f32) : IVec S 32 :=
  select (cmpi .eq (searchV y) (broadcast S 0#32)) (broadcast S 0#32) (subi (searchV y) (broadcast S 126#32))

/-- The scale, at every index. -/
def kscaleV {S : Shape} (y : FVec Ideal S .f32) : FVec Ideal S .f32 :=
  bitcastToFloat .f32 (shli (addi (kexpV y) (broadcast S 127#32)) (broadcast S 23#32))

/-- The inverse scale, at every index. -/
def kinvV {S : Shape} (y : FVec Ideal S .f32) : FVec Ideal S .f32 :=
  bitcastToFloat .f32 (shli (subi (broadcast S 127#32) (kexpV y)) (broadcast S 23#32))

theorem stepV_apply {S : Shape} (y : FVec Ideal S .f32) (b : BitVec 32) (ex : IVec S 32) (i : S.Idx) :
    stepV y b ex i = step (y i) b (ex i) := rfl

theorem searchV_apply {S : Shape} (y : FVec Ideal S .f32) (i : S.Idx) : searchV y i = search (y i) := by
  unfold searchV search
  simp only [stepV_apply]
  rfl

theorem kexpV_apply {S : Shape} (y : FVec Ideal S .f32) (i : S.Idx) : kexpV y i = kexp (y i) := by
  unfold kexp
  rw [← searchV_apply]
  rfl

theorem kscaleV_apply {S : Shape} (y : FVec Ideal S .f32) (i : S.Idx) : kscaleV y i = kscale (y i) := by
  unfold kscale
  rw [← kexpV_apply]
  rfl

theorem kinvV_apply {S : Shape} (y : FVec Ideal S .f32) (i : S.Idx) : kinvV y i = kinv (y i) := by
  unfold kinv
  rw [← kexpV_apply]
  rfl

/-! ### The quantiser on the rows of an array of any extents -/

/-- The row maximum, along the row. -/
theorem rowMax_apply {R N : Nat} (v : FVec Ideal ⟨2, ![R, N]⟩ .f32) (h : (⟨2, ![R, N]⟩ : Shape).Reduces [1] ⟨1, ![R]⟩) (hφ : FKind.Formats .f32)
    (hacc : 0xFF800000#32 = FKind.maximumf.neutral .f32 hφ) (j : (⟨1, ![R]⟩ : Shape).Idx) :
    multiReduction .maximumf [1] ⟨1, ![R]⟩ v 0xFF800000#32 h hφ hacc j
      = Finset.fold emax (Ideal.ofBits .f32 0xFF800000#32) (fun k : Fin N => v (ix2 (j 0) k)) Finset.univ := by
  rw [multiReduction_maximumf_eq_fold, h.fold_fiber_r2_a1]
  rfl

/-- A column's entry is the vector's. -/
theorem shapeCast_col {R : Nat} (v : FVec Ideal ⟨1, ![R]⟩ .f32) (h : (⟨1, ![R]⟩ : Shape).ShapeCasts ⟨2, ![R, 1]⟩) (i : (⟨2, ![R, 1]⟩ : Shape).Idx) :
    shapeCast ⟨2, ![R, 1]⟩ v h i = v (ix1 (i 0)) := by
  refine congrArg v (Shape.reshapeEquiv_eq_of_vals h i (ix1 (i 0)) (i 0).val ((i 0).val * 1 + (i 1).val) (rowMajor_val1 _) (rowMajor_val2 i 1 rfl) ?_)
  have := (i 1).isLt
  have h1 : (i 1).val < 1 := this
  omega

/-- A column's entry, broadcast along its row. -/
theorem broadcast_col {R N : Nat} (s : FVec Ideal ⟨2, ![R, 1]⟩ .f32) (h : (⟨2, ![R, 1]⟩ : Shape).Broadcasts ⟨2, ![R, N]⟩) (i : (⟨2, ![R, N]⟩ : Shape).Idx) :
    broadcastTo ⟨2, ![R, N]⟩ s h i = s (ix2 (i 0) 0) := by
  refine congrArg s ?_
  funext a
  apply Fin.ext
  match a with
  | ⟨0, _⟩ =>
    have hlt : (i 0).val < R := (i 0).isLt
    by_cases hR : R = 1
    · refine (congrArg Fin.val (dif_pos hR)).trans ?_
      show 0 = (i 0).val
      omega
    · exact congrArg Fin.val (dif_neg hR)
  | ⟨1, _⟩ => rfl

/-- Every row's y, as a column. -/
def yV {R N : Nat} (v : FVec Ideal ⟨2, ![R, N]⟩ .f32) (h : (⟨2, ![R, N]⟩ : Shape).Reduces [1] ⟨1, ![R]⟩)
    (h' : (⟨1, ![R]⟩ : Shape).ShapeCasts ⟨2, ![R, 1]⟩) : FVec Ideal ⟨2, ![R, 1]⟩ .f32 :=
  minimumf (mulf (shapeCast ⟨2, ![R, 1]⟩ (multiReduction .maximumf [1] ⟨1, ![R]⟩ (absf v) 0xFF800000#32 h (.inl rfl) rfl) h')
    (broadcast ⟨2, ![R, 1]⟩ (Scalar.ofBits .f32 0x3B124925#32))) (broadcast ⟨2, ![R, 1]⟩ (Scalar.ofBits .f32 0x7E000000#32))

theorem yV_apply {R N : Nat} (v : FVec Ideal ⟨2, ![R, N]⟩ .f32) (h : (⟨2, ![R, N]⟩ : Shape).Reduces [1] ⟨1, ![R]⟩)
    (h' : (⟨1, ![R]⟩ : Shape).ShapeCasts ⟨2, ![R, 1]⟩) (i : (⟨2, ![R, 1]⟩ : Shape).Idx) :
    yV v h h' i = rowY fun k : Fin N => v (ix2 (i 0) k) := by
  have e : shapeCast ⟨2, ![R, 1]⟩ (multiReduction .maximumf [1] ⟨1, ![R]⟩ (absf v) 0xFF800000#32 h (.inl rfl) rfl) h' i
      = Finset.fold emax (Ideal.ofBits .f32 0xFF800000#32) (fun k : Fin N => FloatOps.absf (F := Ideal) (φ := .f32) (v (ix2 (i 0) k))) Finset.univ :=
    (shapeCast_col _ _ _).trans (rowMax_apply _ h _ _ _)
  unfold rowY
  rw [← e]
  rfl

/-- The reference's exponents, as a column. -/
def rexpV {S : Shape} (y : FVec Ideal S .f32) : FVec Ideal S .f32 :=
  select (cmpf .olt y (broadcast S (Scalar.ofBits .f32 0x00800000#32))) (broadcast S (Scalar.ofBits .f32 0x00000000#32))
    (addf (floor (divf (log y) (log (broadcast S (Scalar.ofBits .f32 0x40000000#32))))) (broadcast S (Scalar.ofBits .f32 0x3F800000#32)))

theorem rexpV_apply {S : Shape} (y : FVec Ideal S .f32) (i : S.Idx) : rexpV y i = rexp (y i) := rfl

/-- The codes of an array, from a column of inverse scales. -/
def codesV {R N : Nat} (v : FVec Ideal ⟨2, ![R, N]⟩ .f32) (s : FVec Ideal ⟨2, ![R, 1]⟩ .f32)
    (h : (⟨2, ![R, 1]⟩ : Shape).Broadcasts ⟨2, ![R, N]⟩) (hb : FTy.bits .fp8e4m3 < FTy.bits .f32) : FVec Ideal ⟨2, ![R, N]⟩ .fp8e4m3 :=
  truncf .fp8e4m3 (minimumf (broadcast ⟨2, ![R, N]⟩ (Scalar.ofBits .f32 0x43E00000#32))
    (maximumf (broadcast ⟨2, ![R, N]⟩ (Scalar.ofBits .f32 0xC3E00000#32)) (mulf v (broadcastTo ⟨2, ![R, N]⟩ s h)))) hb

theorem codesV_apply {R N : Nat} (v : FVec Ideal ⟨2, ![R, N]⟩ .f32) (s : FVec Ideal ⟨2, ![R, 1]⟩ .f32)
    (h : (⟨2, ![R, 1]⟩ : Shape).Broadcasts ⟨2, ![R, N]⟩) (hb : FTy.bits .fp8e4m3 < FTy.bits .f32) (i : (⟨2, ![R, N]⟩ : Shape).Idx) :
    codesV v s h hb i = min (Ideal.ofBits .f32 0x43E00000#32) (max (Ideal.ofBits .f32 0xC3E00000#32) (v i * s (ix2 (i 0) 0))) := by
  rw [← broadcast_col s h i]
  rfl

/-- The kernel's scale of a row is the reference's. -/
theorem kscale_yV {R N : Nat} (v : FVec Ideal ⟨2, ![R, N]⟩ .f32) (h : (⟨2, ![R, N]⟩ : Shape).Reduces [1] ⟨1, ![R]⟩)
    (h' : (⟨1, ![R]⟩ : Shape).ShapeCasts ⟨2, ![R, 1]⟩) (i : (⟨2, ![R, 1]⟩ : Shape).Idx) :
    kscaleV (yV v h h') i = rowScale fun k : Fin N => v (ix2 (i 0) k) := by
  rw [kscaleV_apply, yV_apply, kscale_eq _ (rowY_le _)]
  rfl

/-- The kernel's codes are each row's codes. -/
theorem kcodes_yV {R N : Nat} (v : FVec Ideal ⟨2, ![R, N]⟩ .f32) (h : (⟨2, ![R, N]⟩ : Shape).Reduces [1] ⟨1, ![R]⟩)
    (h' : (⟨1, ![R]⟩ : Shape).ShapeCasts ⟨2, ![R, 1]⟩) (hB : (⟨2, ![R, 1]⟩ : Shape).Broadcasts ⟨2, ![R, N]⟩)
    (hb : FTy.bits .fp8e4m3 < FTy.bits .f32) (i : (⟨2, ![R, N]⟩ : Shape).Idx) :
    codesV v (kinvV (yV v h h')) hB hb i = rowCode (fun k : Fin N => v (ix2 (i 0) k)) (v i) := by
  rw [codesV_apply, kinvV_apply, yV_apply, kinv_eq _ (rowY_le _)]
  rfl

/-- The reference's scale of a row. -/
theorem rscale_yV {R N : Nat} (v : FVec Ideal ⟨2, ![R, N]⟩ .f32) (h : (⟨2, ![R, N]⟩ : Shape).Reduces [1] ⟨1, ![R]⟩)
    (h' : (⟨1, ![R]⟩ : Shape).ShapeCasts ⟨2, ![R, 1]⟩) (i : (⟨2, ![R, 1]⟩ : Shape).Idx) :
    exp2 (rexpV (yV v h h')) i = rowScale fun k : Fin N => v (ix2 (i 0) k) := by
  unfold rowScale
  rw [← yV_apply v h h' i]
  rfl

/-- The reference's codes are each row's codes. -/
theorem rcodes_yV {R N : Nat} (v : FVec Ideal ⟨2, ![R, N]⟩ .f32) (h : (⟨2, ![R, N]⟩ : Shape).Reduces [1] ⟨1, ![R]⟩)
    (h' : (⟨1, ![R]⟩ : Shape).ShapeCasts ⟨2, ![R, 1]⟩) (hB : (⟨2, ![R, 1]⟩ : Shape).Broadcasts ⟨2, ![R, N]⟩)
    (hb : FTy.bits .fp8e4m3 < FTy.bits .f32) (i : (⟨2, ![R, N]⟩ : Shape).Idx) :
    codesV v (exp2 (subf (broadcast ⟨2, ![R, 1]⟩ (Scalar.ofBits .f32 0x00000000#32)) (rexpV (yV v h h')))) hB hb i
      = rowCode (fun k : Fin N => v (ix2 (i 0) k)) (v i) := by
  rw [codesV_apply]
  unfold rowCode rowInv
  have e := yV_apply v h h' (ix2 (i 0) 0)
  rw [show (fun k : Fin N => v (ix2 (i 0) k)) = fun k : Fin N => v (ix2 ((ix2 (i 0) 0 : (⟨2, ![R, 1]⟩ : Shape).Idx) 0) k) from rfl, ← e]
  rfl

end Cert.Quantiser

end
-- ==== Proof.NormedRow.lean ====
/- Rows the quantiser is given: streams weighted by their coefficients, and the root-mean-square normalisation. -/
module

public import Idealize.ShloMosaic.Lib.Pipeline.ValueKit

@[expose] public section

noncomputable section

open Idealize.ShloMosaic

namespace Cert.Row

/-- The streams of one position mixed, with the sublayer's output `y` added to each by its weight. -/
def updated {D : ℕ} (w : Fin 4 → Fin 4 → EReal) (b : Fin 4 → EReal) (x : Fin 4 → Fin D → EReal) (y : Fin D → EReal) (n : Fin 4) (d : Fin D) : EReal :=
  (∑ k, w k n * x k d) + b n * y d

/-- The four streams of a position, weighted and added. -/
def mixed (al : Fin 4 → EReal) (x : Fin 4 → Fin 3584 → EReal) (d : Fin 3584) : EReal := ∑ n, x n d * al n

/-- A row over its root mean square, times the gain. -/
def normed (h : Fin 3584 → EReal) (g : Fin 3584 → EReal) (d : Fin 3584) : EReal :=
  h d * Ideal.rsqrt (Ideal.div (∑ k, h k * h k) (Ideal.ofBits .f32 0x45600000#32) + Ideal.ofBits .f32 0x358637BD#32) * g d

end Cert.Row

end
-- ==== Proof.InValue.lean ====
/- The first quantised rows: each grid point weighs the streams of 64 positions, normalises and quantises them;
   together they are the whole array. -/
module

public import proofs.«01_k».proof.Proof.Gen.InIdeal.Frame
public import proofs.«01_k».proof.Proof.Gen.InRefIdeal.Frame
public import proofs.«01_k».proof.Proof.QuantiserScale
public import proofs.«01_k».proof.Proof.NormedRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InIdeal.Codes
open Cert.InIdeal Cert.InIdeal.Gen Cert.Quantiser Cert.Row

variable (m : (ℓ : Loc nD τ sig) → Buf (Elt Ideal) ℓ)

/-- The normalised row of a position. -/
def row (al : Vec Ideal S4 .f32) (g : Vec Ideal S3584 .f32) (x : Vec Ideal S12x128x4x3584 .bf16) (r : Fin 1536) (d : Fin 3584) : EReal :=
  normed (mixed (fun n => al (ix1 n)) fun n d => x (ix4 ⟨r.val / 128, by omega⟩ ⟨r.val % 128, by omega⟩ n d)) (fun d => g (ix1 d)) d

/-- Which block of its array each window holds at a grid point. -/
theorem idx : ∀ t : Fin cfg0.N, win0_0.index t = ![0] ∧ win0_1.index t = ![0, 0] ∧ win0_2.index t = ![t.val / 2, t.val % 2, 0, 0]
    ∧ win0_3.index t = ![t.val, 0] ∧ win0_4.index t = ![t.val, 0] :=
  (by decide +kernel : ∀ t : Fin grid0.N, _)

/-- The weighted streams of a grid point's rows, from the streams' weights and the block. -/
abbrev hB (a : Vec Ideal S4 .f32) (x : Vec Ideal S1x64x4x3584 .bf16) : FVec Ideal S64x3584 .f32 :=
  k0_pay4 (View.ld a (Rect.unit ![0] ![1] inb_S4_S1_0) (Shape.Idx.first (by decide)))
            (View.ld x (Rect.unit ![0, 0, 0, 0] ![1, 64, 1, 3584] inb_S1x64x4x3584_S1x64x1x3584_0_0_0_0))
            (View.ld a (Rect.unit ![1] ![1] inb_S4_S1_1) (Shape.Idx.first (by decide)))
            (View.ld x (Rect.unit ![0, 0, 1, 0] ![1, 64, 1, 3584] inb_S1x64x4x3584_S1x64x1x3584_0_0_1_0))
            (View.ld a (Rect.unit ![2] ![1] inb_S4_S1_2) (Shape.Idx.first (by decide)))
            (View.ld x (Rect.unit ![0, 0, 2, 0] ![1, 64, 1, 3584] inb_S1x64x4x3584_S1x64x1x3584_0_0_2_0))
            (View.ld a (Rect.unit ![3] ![1] inb_S4_S1_3) (Shape.Idx.first (by decide)))
            (View.ld x (Rect.unit ![0, 0, 3, 0] ![1, 64, 1, 3584] inb_S1x64x4x3584_S1x64x1x3584_0_0_3_0))
/-- The weighted streams, at an index. -/
theorem hB_apply (a x) (i : S64x3584.Idx) : hB a x i = mixed (fun n => a (ix1 n)) (fun n d => x (ix4 0 (i 0) n d)) (i 1) := by
  unfold mixed hB
  rw [Fin.sum_univ_four]
  pointwise [k0_pay4, View.ld]
  simp only [mul_comm]

/-- A grid point's rows before quantising. -/
abbrev uB (a : Vec Ideal S4 .f32) (g : Vec Ideal S1x3584 .f32) (x : Vec Ideal S1x64x4x3584 .bf16) : FVec Ideal S64x3584 .f32 :=
  k0_pay7 (hB a x) (k0_pay5 g) (k0_pay6 (View.ld a (Rect.unit ![0] ![1] inb_S4_S1_0) (Shape.Idx.first (by decide)))
            (View.ld x (Rect.unit ![0, 0, 0, 0] ![1, 64, 1, 3584] inb_S1x64x4x3584_S1x64x1x3584_0_0_0_0))
            (View.ld a (Rect.unit ![1] ![1] inb_S4_S1_1) (Shape.Idx.first (by decide)))
            (View.ld x (Rect.unit ![0, 0, 1, 0] ![1, 64, 1, 3584] inb_S1x64x4x3584_S1x64x1x3584_0_0_1_0))
            (View.ld a (Rect.unit ![2] ![1] inb_S4_S1_2) (Shape.Idx.first (by decide)))
            (View.ld x (Rect.unit ![0, 0, 2, 0] ![1, 64, 1, 3584] inb_S1x64x4x3584_S1x64x1x3584_0_0_2_0))
            (View.ld a (Rect.unit ![3] ![1] inb_S4_S1_3) (Shape.Idx.first (by decide)))
            (View.ld x (Rect.unit ![0, 0, 3, 0] ![1, 64, 1, 3584] inb_S1x64x4x3584_S1x64x1x3584_0_0_3_0))) (FloatOps.ofBits FTy.f32 0x358637BD#32)

/-- The mean of the squares of each row. -/
theorem pay6_eq (a : Vec Ideal S4 .f32) (x : Vec Ideal S1x64x4x3584 .bf16) :
  (k0_pay6 (View.ld a (Rect.unit ![0] ![1] inb_S4_S1_0) (Shape.Idx.first (by decide)))
            (View.ld x (Rect.unit ![0, 0, 0, 0] ![1, 64, 1, 3584] inb_S1x64x4x3584_S1x64x1x3584_0_0_0_0))
            (View.ld a (Rect.unit ![1] ![1] inb_S4_S1_1) (Shape.Idx.first (by decide)))
            (View.ld x (Rect.unit ![0, 0, 1, 0] ![1, 64, 1, 3584] inb_S1x64x4x3584_S1x64x1x3584_0_0_1_0))
            (View.ld a (Rect.unit ![2] ![1] inb_S4_S1_2) (Shape.Idx.first (by decide)))
            (View.ld x (Rect.unit ![0, 0, 2, 0] ![1, 64, 1, 3584] inb_S1x64x4x3584_S1x64x1x3584_0_0_2_0))
            (View.ld a (Rect.unit ![3] ![1] inb_S4_S1_3) (Shape.Idx.first (by decide)))
            (View.ld x (Rect.unit ![0, 0, 3, 0] ![1, 64, 1, 3584] inb_S1x64x4x3584_S1x64x1x3584_0_0_3_0)))
   = divf (shapeCast S64x1 (multiReduction .add [1] S64 (mulf (hB a x) (hB a x)) 0x00000000#32 reduces_S64x3584_S64 (.inl rfl) rfl) shapeCasts_S64_S64x1) (broadcast S64x1 (Scalar.ofBits .f32 0x45600000#32)) := rfl

/-- The normalisation, at an index. -/
theorem norm_apply (h : FVec Ideal S64x3584 .f32) (g : Vec Ideal S1x3584 .f32) (i : S64x3584.Idx) :
    k0_pay7 h (k0_pay5 g) (divf (shapeCast S64x1 (multiReduction .add [1] S64 (mulf h h) 0x00000000#32 reduces_S64x3584_S64 (.inl rfl) rfl) shapeCasts_S64_S64x1) (broadcast S64x1 (Scalar.ofBits .f32 0x45600000#32)))
      (FloatOps.ofBits FTy.f32 0x358637BD#32) i
      = normed (fun k => h (ix2 (i 0) k)) (fun d => g (ix2 0 d)) (i 1) := by
  unfold normed
  pointwise [k0_pay7, k0_pay5]

/-- The rows before quantising, at an index. -/
theorem uB_apply (a g x) (i : S64x3584.Idx) : uB a g x i
    = normed (mixed (fun n => a (ix1 n)) (fun n d => x (ix4 0 (i 0) n d))) (fun d => g (ix2 0 d)) (i 1) := by
  unfold uB
  rw [pay6_eq, norm_apply]
  exact congrArg (fun f => normed f _ _) (funext fun k => hB_apply a x (ix2 (i 0) k))

/-- The gain the kernel is given, as a row. -/
theorem V0 (c : Dev nD) (d : Fin 3584) : V m c main_v0 (ix2 0 d) = m ((c : Thread nD τ).loc main_arg1) (ix1 d) := by
  entry_read
  pointwise []

/-- A grid point's rows are the whole array's. -/
theorem u_point (c : Dev nD) (t : Fin cfg0.N) (i : S64x3584.Idx) :
    uB (iblk m c 0 t) (iblk m c 1 t) (iblk m c 2 t) i
      = row (m ((c : Thread nD τ).loc main_arg0)) (m ((c : Thread nD τ).loc main_arg1)) (m ((c : Thread nD τ).loc main_arg2))
          ⟨64 * t.val + (i 0).val, by have := (i 0).isLt; have : (i 0).val < 64 := this; have := t.isLt; have : t.val < 24 := this; omega⟩ (i 1) := by
  rw [uB_apply]
  unfold row
  have e0 : (fun n : Fin 4 => iblk m c 0 t (ix1 n)) = fun n => m ((c : Thread nD τ).loc main_arg0) (ix1 n) := by
    funext n
    blk_point [iblk, V, idx t]
  have e1 : (fun d : Fin 3584 => iblk m c 1 t (ix2 0 d)) = fun d => m ((c : Thread nD τ).loc main_arg1) (ix1 d) := by
    funext d
    rw [← V0 m c d]
    blk_point [iblk, idx t]
  have e2 : (fun (n : Fin 4) (d : Fin 3584) => iblk m c 2 t (ix4 0 (i 0) n d)) = fun n d => m ((c : Thread nD τ).loc main_arg2)
      (ix4 ⟨(64 * t.val + (i 0).val) / 128, by have := (i 0).isLt; have : (i 0).val < 64 := this; have := t.isLt; have : t.val < 24 := this; omega⟩
       ⟨(64 * t.val + (i 0).val) % 128, by omega⟩ n d) := by
    funext n d
    blk_point [iblk, V, idx t]
  rw [e0, e1, e2]

/-- Each row's y. -/
theorem pay8_eq (h : FVec Ideal S64x3584 .f32) (g : FVec Ideal S1x3584 .f32) (w : FVec Ideal S64x1 .f32) (e : Ideal .f32) :
    k0_pay8 h g w e = yV (k0_pay7 h g w e) reduces_S64x3584_S64 shapeCasts_S64_S64x1 := rfl

/-- The first three steps of the search. -/
theorem pay9_eq (h : FVec Ideal S64x3584 .f32) (g : FVec Ideal S1x3584 .f32) (w : FVec Ideal S64x1 .f32) (e : Ideal .f32) :
    k0_pay9 h g w e = stepV (k0_pay8 h g w e) 32#32 (stepV (k0_pay8 h g w e) 64#32 (stepV (k0_pay8 h g w e) 128#32 (broadcast S64x1 0#32))) := rfl

/-- The last five steps. -/
theorem pay12_eq (y : FVec Ideal S64x1 .f32) (ex : IVec S64x1 32) :
    k0_pay12 y ex (addi ex (broadcast S64x1 16#32)) k0_pay11
      = stepV y 1#32 (stepV y 2#32 (stepV y 4#32 (stepV y 8#32 (stepV y 16#32 ex)))) := rfl

/-- The exponent a grid point finds for each of its rows. -/
theorem exp_pay (h : FVec Ideal S64x3584 .f32) (g : FVec Ideal S1x3584 .f32) (w : FVec Ideal S64x1 .f32) (e : Ideal .f32) :
    k0_pay1 (k0_pay12 (k0_pay8 h g w e) (k0_pay9 h g w e) (k0_pay10 h g w e) k0_pay11)
      (k0_pay13 (k0_pay8 h g w e) (k0_pay9 h g w e) (k0_pay10 h g w e) k0_pay11) k0_pay14 = kexpV (k0_pay8 h g w e) := by
  have hs : k0_pay12 (k0_pay8 h g w e) (k0_pay9 h g w e) (k0_pay10 h g w e) k0_pay11 = searchV (k0_pay8 h g w e) := by
    unfold k0_pay10 searchV
    rw [pay12_eq, pay9_eq]
  unfold k0_pay13 k0_pay14 k0_pay1 kexpV
  rw [hs]

/-- The scales a grid point stores. -/
theorem scale_point (h : FVec Ideal S64x3584 .f32) (g : FVec Ideal S1x3584 .f32) (w : FVec Ideal S64x1 .f32) (e : Ideal .f32) (i : S64x1.Idx) :
    k0_pay2 (F := Ideal) (k0_pay12 (k0_pay8 h g w e) (k0_pay9 h g w e) (k0_pay10 h g w e) k0_pay11)
      (k0_pay13 (k0_pay8 h g w e) (k0_pay9 h g w e) (k0_pay10 h g w e) k0_pay11) k0_pay14 i
      = rowScale fun k : Fin 3584 => k0_pay7 h g w e (ix2 (i 0) k) := by
  unfold k0_pay2
  rw [exp_pay, pay8_eq]
  exact kscale_yV _ _ _ i

/-- The codes a grid point stores. -/
theorem code_point (h : FVec Ideal S64x3584 .f32) (g : FVec Ideal S1x3584 .f32) (w : FVec Ideal S64x1 .f32) (e : Ideal .f32) (i : S64x3584.Idx) :
    k0_pay3 (k0_pay7 h g w e) (k0_pay12 (k0_pay8 h g w e) (k0_pay9 h g w e) (k0_pay10 h g w e) k0_pay11)
      (k0_pay13 (k0_pay8 h g w e) (k0_pay9 h g w e) (k0_pay10 h g w e) k0_pay11) k0_pay14 i
      = rowCode (fun k : Fin 3584 => k0_pay7 h g w e (ix2 (i 0) k)) (k0_pay7 h g w e i) := by
  unfold k0_pay3
  rw [exp_pay, pay8_eq]
  exact kcodes_yV _ _ _ _ _ i

/-- After the run the scales are each row's scale. -/
theorem final_scale (c : Dev nD) : (dats m 0 c).arrAt 4 (cfgs 0).N
    = fun i => rowScale (row (m ((c : Thread nD τ).loc main_arg0)) (m ((c : Thread nD τ).loc main_arg1)) (m ((c : Thread nD τ).loc main_arg2)) (i 0)) := by
  refine (dats m 0 c).arrAt_eq_of_covers 4 _ (by decide +kernel) fun t _ y => ?_
  blk_simp
  rw [after0_4]
  unfold outsAt0
  frame_out
  refine (scale_point _ _ _ _ _).trans (congrArg rowScale (funext fun k => (u_point m c t _).trans ?_))
  blk_point [idx t]

/-- After the run the codes are each row's codes. -/
theorem final_code (c : Dev nD) : (dats m 0 c).arrAt 3 (cfgs 0).N
    = fun i => rowCode (row (m ((c : Thread nD τ).loc main_arg0)) (m ((c : Thread nD τ).loc main_arg1)) (m ((c : Thread nD τ).loc main_arg2)) (i 0))
        (row (m ((c : Thread nD τ).loc main_arg0)) (m ((c : Thread nD τ).loc main_arg1)) (m ((c : Thread nD τ).loc main_arg2)) (i 0) (i 1)) := by
  refine (dats m 0 c).arrAt_eq_of_covers 3 _ (by decide +kernel) fun t _ y => ?_
  blk_simp
  rw [after0_3]
  unfold outsAt0
  frame_out
  refine (code_point _ _ _ _ _).trans (congr (congrArg rowCode (funext fun k => (u_point m c t _).trans ?_)) ((u_point m c t _).trans ?_))
  · blk_point [idx t]
  · blk_point [idx t]

end Cert.InIdeal.Codes

namespace Cert.InRefIdeal.Codes
open Cert.InRefIdeal Cert.InRefIdeal.Gen Cert.Quantiser Cert.Row

variable (m : (ℓ : Loc nD τ sig) → Buf (Elt Ideal) ℓ)

/-- The reference has one block, the whole array. -/
theorem idx : ∀ t : Fin cfg0.N, win0_0.index t = ![0, 0] ∧ win0_1.index t = ![0, 0] ∧ win0_2.index t = ![0, 0] :=
  (by decide +kernel : ∀ t : Fin grid0.N, _)

/-- The rows the reference quantises. -/
theorem V15 (c : Dev nD) (j : S1536x3584.Idx) : (V m c main_v15 : S1536x3584.Idx → EReal) j
    = Cert.InIdeal.Codes.row (m ((c : Thread nD τ).loc main_arg0)) (m ((c : Thread nD τ).loc main_arg1)) (m ((c : Thread nD τ).loc main_arg2)) (j 0) (j 1) := by
  entry_read
  unfold Cert.InIdeal.Codes.row normed mixed
  pointwise []

/-- The reference's cast to its own shape is the identity. -/
theorem pay1_eq (v : Vec Ideal S1536x3584 .f32) : k0_pay1 v = v := by
  unfold k0_pay1
  exact shapeCast_id _ _

/-- Each row's exponent. -/
theorem pay2_eq (v : Vec Ideal S1536x3584 .f32) :
    k0_pay2 v = rexpV (yV (k0_pay1 v) reduces_S1536x3584_S1536 shapeCasts_S1536_S1536x1) := rfl

/-- The reference's scales. -/
theorem scale_point (x : Vec Ideal S1536x3584 .f32) (i : S1536x1.Idx) :
    k0_pay4 (F := Ideal) x i = rowScale fun k : Fin 3584 => x (ix2 (i 0) k) := by
  unfold k0_pay4
  rw [pay2_eq, pay1_eq]
  exact rscale_yV _ _ _ i

/-- The reference's codes. -/
theorem code_point (x : Vec Ideal S1536x3584 .f32) (i : S1536x3584.Idx) :
    k0_pay3 (F := Ideal) x i = rowCode (fun k : Fin 3584 => x (ix2 (i 0) k)) (x i) := by
  unfold k0_pay3
  rw [pay2_eq, pay1_eq]
  exact rcodes_yV _ _ _ _ _ i

/-- After the run the scales are each row's scale. -/
theorem final_scale (c : Dev nD) : (dats m 0 c).arrAt 2 (cfgs 0).N
    = fun i => rowScale (Cert.InIdeal.Codes.row (m ((c : Thread nD τ).loc main_arg0)) (m ((c : Thread nD τ).loc main_arg1)) (m ((c : Thread nD τ).loc main_arg2)) (i 0)) := by
  refine (dats m 0 c).arrAt_eq_of_covers 2 _ (by decide +kernel) fun t _ y => ?_
  blk_simp
  rw [after0_2]; frame_out
  refine (scale_point _ _).trans (congrArg rowScale (funext fun k => ?_))
  refine Eq.trans ?_ (V15 m c (ix2 _ k))
  blk_point [iblk, idx t]

/-- After the run the codes are each row's codes. -/
theorem final_code (c : Dev nD) : (dats m 0 c).arrAt 1 (cfgs 0).N
    = fun i => rowCode (Cert.InIdeal.Codes.row (m ((c : Thread nD τ).loc main_arg0)) (m ((c : Thread nD τ).loc main_arg1)) (m ((c : Thread nD τ).loc main_arg2)) (i 0))
        (Cert.InIdeal.Codes.row (m ((c : Thread nD τ).loc main_arg0)) (m ((c : Thread nD τ).loc main_arg1)) (m ((c : Thread nD τ).loc main_arg2)) (i 0) (i 1)) := by
  refine (dats m 0 c).arrAt_eq_of_covers 1 _ (by decide +kernel) fun t _ y => ?_
  blk_simp
  rw [after0_1]; frame_out
  refine (code_point _ _).trans (congr (congrArg rowCode (funext fun k => ?_)) ?_)
  · refine Eq.trans ?_ (V15 m c (ix2 _ k))
    blk_point [iblk, idx t]
  · refine Eq.trans ?_ (V15 m c _)
    blk_point [iblk, idx t]

end Cert.InRefIdeal.Codes

end
-- ==== Proof.QkvProduct.lean ====
/- The query, key and value products: each grid point computes 512 columns; together they are the whole array. -/
module

public import proofs.«01_k».proof.Proof.Gen.QkvIdeal.Frame
public import proofs.«01_k».proof.Proof.Gen.QkvRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Product
open Cert.QkvIdeal Cert.QkvIdeal.Gen

variable (m : (ℓ : Loc nD τ sig) → Buf (Elt Ideal) ℓ)

/-- Which block of its array each window holds at a grid point. -/
theorem idx : ∀ t : Fin cfg0.N, win0_0.index t = ![0, 0] ∧ win0_1.index t = ![0, 0] ∧ win0_2.index t = ![0, t.val] ∧ win0_3.index t = ![0, t.val] ∧ win0_4.index t = ![0, t.val] :=
  (by decide +kernel : ∀ t : Fin grid0.N, _)

/-- What a grid point computes, at an index of its block: the reference's value at that index of the whole array. -/
theorem point (c : Dev nD) (t : Fin cfg0.N) (y) :
    k0_pay1 (iblk m c 0 t) (iblk m c 2 t) (iblk m c 1 t) (iblk m c 3 t) y
      = Cert.QkvRefIdeal.Gen.k0_pay1 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.QkvRefIdeal.Gen.k0_pay1]
  blk_point [iblk, V, idx t]

/-- After the run the kernel's result array is the reference's result of the same arguments. -/
theorem final (c : Dev nD) : (dats m 0 c).arrAt 4 (cfgs 0).N
    = Cert.QkvRefIdeal.Gen.k0_pay1 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.QkvIdeal.Product

end
-- ==== Proof.AttnValue.lean ====
/- The attention rows: each grid point takes one batch, attends the sixteen heads one after another, each into its
   256 columns, and quantises the rows of all heads together; the twelve batches are the whole array. -/
module

public import proofs.«01_k».proof.Proof.Gen.AttnIdeal.Frame
public import proofs.«01_k».proof.Proof.Gen.AttnRefIdeal.Frame
public import proofs.«01_k».proof.Proof.QuantiserScale
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ### Causal attention of one head -/

namespace Cert.Head
open Cert.Quantiser

/-- The scaled score of a query at position `s` with the key at position `t`, minus infinity for a later key. -/
def score (q : Fin 256 → EReal) (k : Fin 128 → Fin 256 → EReal) (s t : Fin 128) : EReal :=
  Scalar.select (IntOp.cmpi .sle (BitVec.ofNat 32 t.val) (BitVec.ofNat 32 s.val))
    ((∑ d : Fin 256, q d * k t d) * Ideal.ofBits .f32 1031798784#32) (Ideal.ofBits .f32 4286578688#32)

/-- The exponential of a score less the greatest score of its row. -/
def weight (q : Fin 256 → EReal) (k : Fin 128 → Fin 256 → EReal) (s t : Fin 128) : EReal :=
  Ideal.exp (score q k s t - Finset.fold emax (Ideal.ofBits .f32 4286578688#32) (fun t => score q k s t) Finset.univ)

/-- The softmax-weighted sum of the values. -/
def attended (q : Fin 256 → EReal) (k v : Fin 128 → Fin 256 → EReal) (s : Fin 128) (d : Fin 256) : EReal :=
  ∑ t : Fin 128, Ideal.div (weight q k s t) (∑ u : Fin 128, weight q k s u) * v t d

/-- Column `n` of the attention of position `s` of a batch: head `n / 256` with its key and value head. -/
def heads (x : Fin 128 → Fin 8192 → EReal) (s : Fin 128) (n : Fin 4096) : EReal :=
  attended (fun d => x s ⟨256 * (n.val / 256) + d.val, by omega⟩) (fun t d => x t ⟨4096 + 256 * (n.val / 256 / 2) + d.val, by omega⟩)
    (fun t d => x t ⟨6144 + 256 * (n.val / 256 / 2) + d.val, by omega⟩) s ⟨n.val % 256, by omega⟩

/-- The same of a position of the whole array. -/
def row (x : Vec Ideal ⟨2, ![1536, 8192]⟩ .bf16) (r : Fin 1536) (n : Fin 4096) : EReal :=
  heads (fun s d => x (ix2 ⟨r.val / 128 * 128 + s.val, by omega⟩ d)) ⟨r.val % 128, by omega⟩ n

/-- The same position and column give the same number. -/
theorem row_congr (x : Vec Ideal ⟨2, ![1536, 8192]⟩ .bf16) {r r' : Fin 1536} {n n' : Fin 4096} (hr : r.val = r'.val) (hn : n.val = n'.val) :
    row x r n = row x r' n' := by
  rw [Fin.ext hr, Fin.ext hn]

end Cert.Head

namespace Cert.AttnIdeal.Codes
open Cert.AttnIdeal Cert.AttnIdeal.Gen Cert.Quantiser Cert.Head

variable (m : (ℓ : Loc nD τ sig) → Buf (Elt Ideal) ℓ)

/-- Which block of its array each window holds at a grid point. -/
theorem idx : ∀ t : Fin cfg0.N, win0_0.index t = ![t.val, 0] ∧ win0_1.index t = ![t.val, 0] ∧ win0_2.index t = ![t.val, 0] :=
  (by decide +kernel : ∀ t : Fin grid0.N, _)

/-- A head's instructions, at an index. -/
theorem head_apply (q k v : Vec Ideal S128x256 .bf16) (i : S128x256.Idx) : k0_pay4 q k v i
    = attended (fun d => q (ix2 (i 0) d)) (fun t d => k (ix2 t d)) (fun t d => v (ix2 t d)) (i 0) (i 1) := by
  unfold attended weight score
  pointwise [k0_pay4]

/-- Head 1's instructions are head 0's. -/
theorem head1_eq (q k v : Vec Ideal S128x256 .bf16) :
    k0_pay6 v (k0_pay5 q k) = k0_pay4 q k v := rfl

/-- Head 2's instructions are head 0's. -/
theorem head2_eq (q k v : Vec Ideal S128x256 .bf16) :
    k0_pay7 (iota Kind.tc S128x128 32 [0] iota_S128x128_d0_w32) (iota Kind.tc S128x128 32 [1] iota_S128x128_d1_w32) q k v = k0_pay4 q k v := rfl

/-- Head 3's instructions are head 0's. -/
theorem head3_eq (q k v : Vec Ideal S128x256 .bf16) :
    k0_pay8 (iota Kind.tc S128x128 32 [0] iota_S128x128_d0_w32) (iota Kind.tc S128x128 32 [1] iota_S128x128_d1_w32) q k v = k0_pay4 q k v := rfl

/-- Head 4's instructions are head 0's. -/
theorem head4_eq (q k v : Vec Ideal S128x256 .bf16) :
    k0_pay10 v (k0_pay9 (iota Kind.tc S128x128 32 [0] iota_S128x128_d0_w32) (iota Kind.tc S128x128 32 [1] iota_S128x128_d1_w32) q k) = k0_pay4 q k v := rfl

/-- Head 5's instructions are head 0's. -/
theorem head5_eq (q k v : Vec Ideal S128x256 .bf16) :
    k0_pay11 (iota Kind.tc S128x128 32 [0] iota_S128x128_d0_w32) (iota Kind.tc S128x128 32 [1] iota_S128x128_d1_w32) q k v = k0_pay4 q k v := rfl

/-- Head 6's instructions are head 0's. -/
theorem head6_eq (q k v : Vec Ideal S128x256 .bf16) :
    k0_pay12 (iota Kind.tc S128x128 32 [0] iota_S128x128_d0_w32) (iota Kind.tc S128x128 32 [1] iota_S128x128_d1_w32) q k v = k0_pay4 q k v := rfl

/-- Head 7's instructions are head 0's. -/
theorem head7_eq (q k v : Vec Ideal S128x256 .bf16) :
    k0_pay14 v (k0_pay13 (iota Kind.tc S128x128 32 [0] iota_S128x128_d0_w32) (iota Kind.tc S128x128 32 [1] iota_S128x128_d1_w32) q k) (constant S128x256 .f32 0x00000000#32) = k0_pay4 q k v := rfl

/-- Head 8's instructions are head 0's. -/
theorem head8_eq (q k v : Vec Ideal S128x256 .bf16) :
    k0_pay15 (iota Kind.tc S128x128 32 [0] iota_S128x128_d0_w32) (iota Kind.tc S128x128 32 [1] iota_S128x128_d1_w32) q k v = k0_pay4 q k v := rfl

/-- Head 9's instructions are head 0's. -/
theorem head9_eq (q k v : Vec Ideal S128x256 .bf16) :
    k0_pay18 v (k0_pay16 q k) (k0_pay17 (iota Kind.tc S128x128 32 [0] iota_S128x128_d0_w32) (iota Kind.tc S128x128 32 [1] iota_S128x128_d1_w32)) = k0_pay4 q k v := rfl

/-- Head 10's instructions are head 0's. -/
theorem head10_eq (q k v : Vec Ideal S128x256 .bf16) :
    k0_pay19 (iota Kind.tc S128x128 32 [0] iota_S128x128_d0_w32) (iota Kind.tc S128x128 32 [1] iota_S128x128_d1_w32) q k v = k0_pay4 q k v := rfl

/-- Head 11's instructions are head 0's. -/
theorem head11_eq (q k v : Vec Ideal S128x256 .bf16) :
    k0_pay20 (iota Kind.tc S128x128 32 [0] iota_S128x128_d0_w32) (iota Kind.tc S128x128 32 [1] iota_S128x128_d1_w32) q k v = k0_pay4 q k v := rfl

/-- Head 12's instructions are head 0's. -/
theorem head12_eq (q k v : Vec Ideal S128x256 .bf16) :
    k0_pay23 v (k0_pay21 (iota Kind.tc S128x128 32 [0] iota_S128x128_d0_w32) (iota Kind.tc S128x128 32 [1] iota_S128x128_d1_w32) q k) (k0_pay22 (iota Kind.tc S128x128 32 [0] iota_S128x128_d0_w32) (iota Kind.tc S128x128 32 [1] iota_S128x128_d1_w32) q k) = k0_pay4 q k v := rfl

/-- Head 13's instructions are head 0's. -/
theorem head13_eq (q k v : Vec Ideal S128x256 .bf16) :
    k0_pay24 (iota Kind.tc S128x128 32 [0] iota_S128x128_d0_w32) (iota Kind.tc S128x128 32 [1] iota_S128x128_d1_w32) q k v = k0_pay4 q k v := rfl

/-- Head 14's instructions are head 0's. -/
theorem head14_eq (q k v : Vec Ideal S128x256 .bf16) :
    k0_pay25 (iota Kind.tc S128x128 32 [0] iota_S128x128_d0_w32) (iota Kind.tc S128x128 32 [1] iota_S128x128_d1_w32) q k v = k0_pay4 q k v := rfl

/-- Head 15's instructions are head 0's. -/
theorem head15_eq (q k v : Vec Ideal S128x256 .bf16) :
    k0_pay28 v (k0_pay26 (iota Kind.tc S128x128 32 [0] iota_S128x128_d0_w32) (iota Kind.tc S128x128 32 [1] iota_S128x128_d1_w32) q k) (k0_pay27 (iota Kind.tc S128x128 32 [0] iota_S128x128_d0_w32) (iota Kind.tc S128x128 32 [1] iota_S128x128_d1_w32) q k) = k0_pay4 q k v := rfl

/-- What the scratch holds after all heads. -/
def G (X : Vec Ideal S128x8192 .bf16) (j : S128x4096.Idx) : EReal := heads (fun s d => X (ix2 s d)) (j 0) (j 1)

/-- A head writes its columns of it. -/
theorem piece (X : Vec Ideal S128x8192 .bf16) (h a b c : ℕ) (ha : a = 256 * h) (hb : b = 4096 + 256 * (h / 2)) (hc : c = 6144 + 256 * (h / 2))
    (ia : ∀ e : Fin 2, ![0, a] e + ![128, 256] e ≤ S128x4096.size e) (iq : ∀ e : Fin 2, ![0, a] e + ![128, 256] e ≤ S128x8192.size e)
    (ik : ∀ e : Fin 2, ![0, b] e + ![128, 256] e ≤ S128x8192.size e) (iv : ∀ e : Fin 2, ![0, c] e + ![128, 256] e ≤ S128x8192.size e)
    (x : S128x256.Idx) :
    k0_pay4 (F := Ideal) (View.ld X (Rect.unit (s := S128x8192) ![0, a] ![128, 256] iq)) (View.ld X (Rect.unit (s := S128x8192) ![0, b] ![128, 256] ik))
      (View.ld X (Rect.unit (s := S128x8192) ![0, c] ![128, 256] iv)) x
      = G X ((Rect.unit (s := S128x4096) ![0, a] ![128, 256] ia).emb x) := by
  subst ha hb hc
  obtain ⟨s, d, rfl⟩ : ∃ (s : Fin 128) (d : Fin 256), x = ix2 s d := ⟨_, _, eq_ix2 x⟩
  rw [head_apply]
  change attended (fun k => View.ld X (Rect.unit (s := S128x8192) ![0, 256 * h] ![128, 256] iq) (ix2 s k))
    (fun t k => View.ld X (Rect.unit (s := S128x8192) ![0, 4096 + 256 * (h / 2)] ![128, 256] ik) (ix2 t k))
    (fun t k => View.ld X (Rect.unit (s := S128x8192) ![0, 6144 + 256 * (h / 2)] ![128, 256] iv) (ix2 t k)) s d = _
  have e1 : (Rect.unit (s := S128x4096) ![0, 256 * h] ![128, 256] ia).emb (ix2 s d)
      = ix2 s ⟨256 * h + d.val, by have : 256 * h + 256 ≤ 4096 := ia 1; omega⟩ := by
    funext e
    match e with
    | 0 => exact Fin.ext ((Rect.idx_unit_val _ _ ia _ 0).trans (Nat.zero_add _))
    | 1 => exact Fin.ext (Rect.idx_unit_val _ _ ia _ 1)
  have hh : 256 * h + 256 ≤ 4096 := ia 1
  have ld : ∀ (o : ℕ) (io : ∀ e : Fin 2, ![0, o] e + ![128, 256] e ≤ S128x8192.size e) (t : Fin 128) (k : Fin 256),
      View.ld X (Rect.unit (s := S128x8192) ![0, o] ![128, 256] io) (ix2 t k) = X (ix2 t ⟨o + k.val, by have : o + 256 ≤ 8192 := io 1; omega⟩) := by
    intro o io t k
    refine View.ld_unit_apply_of X _ _ io _ _ fun e => ?_
    match e with
    | 0 => exact (Nat.zero_add _).symm
    | 1 => rfl
  rw [e1]
  unfold G heads
  have e2 : (256 * h + d.val) / 256 = h := by omega
  have e3 : (256 * h + d.val) % 256 = d.val := by omega
  simp only [ld]
  show attended _ _ _ _ _ = attended (fun k => X (ix2 s ⟨256 * ((256 * h + d.val) / 256) + k.val, _⟩))
    (fun t k => X (ix2 t ⟨4096 + 256 * ((256 * h + d.val) / 256 / 2) + k.val, _⟩))
    (fun t k => X (ix2 t ⟨6144 + 256 * ((256 * h + d.val) / 256 / 2) + k.val, _⟩)) s ⟨(256 * h + d.val) % 256, _⟩
  simp only [e2, e3]

/-- What the quantiser reads back is what the heads wrote. -/
theorem scratch (X : Vec Ideal S128x8192 .bf16) (y : S128x4096.Idx) : View.canon (Val := Elt Ideal) (s := S128x4096) (e := .f32) [
    ⟨Rect.unit ![0, 3840] ![128, 256] inb_S128x4096_S128x256_0_3840,
      k0_pay28 (View.ld X (Rect.unit ![0, 7936] ![128, 256] inb_S128x8192_S128x256_0_7936)) (k0_pay26 (iota Kind.tc S128x128 32 [0] iota_S128x128_d0_w32) (iota Kind.tc S128x128 32 [1] iota_S128x128_d1_w32) (View.ld X (Rect.unit ![0, 3840] ![128, 256] inb_S128x8192_S128x256_0_3840)) (View.ld X (Rect.unit ![0, 5888] ![128, 256] inb_S128x8192_S128x256_0_5888))) (k0_pay27 (iota Kind.tc S128x128 32 [0] iota_S128x128_d0_w32) (iota Kind.tc S128x128 32 [1] iota_S128x128_d1_w32) (View.ld X (Rect.unit ![0, 3840] ![128, 256] inb_S128x8192_S128x256_0_3840)) (View.ld X (Rect.unit ![0, 5888] ![128, 256] inb_S128x8192_S128x256_0_5888)))⟩,
    ⟨Rect.unit ![0, 3584] ![128, 256] inb_S128x4096_S128x256_0_3584,
      k0_pay25 (iota Kind.tc S128x128 32 [0] iota_S128x128_d0_w32) (iota Kind.tc S128x128 32 [1] iota_S128x128_d1_w32) (View.ld X (Rect.unit ![0, 3584] ![128, 256] inb_S128x8192_S128x256_0_3584)) (View.ld X (Rect.unit ![0, 5888] ![128, 256] inb_S128x8192_S128x256_0_5888)) (View.ld X (Rect.unit ![0, 7936] ![128, 256] inb_S128x8192_S128x256_0_7936))⟩,
    ⟨Rect.unit ![0, 3328] ![128, 256] inb_S128x4096_S128x256_0_3328,
      k0_pay24 (iota Kind.tc S128x128 32 [0] iota_S128x128_d0_w32) (iota Kind.tc S128x128 32 [1] iota_S128x128_d1_w32) (View.ld X (Rect.unit ![0, 3328] ![128, 256] inb_S128x8192_S128x256_0_3328)) (View.ld X (Rect.unit ![0, 5632] ![128, 256] inb_S128x8192_S128x256_0_5632)) (View.ld X (Rect.unit ![0, 7680] ![128, 256] inb_S128x8192_S128x256_0_7680))⟩,
    ⟨Rect.unit ![0, 3072] ![128, 256] inb_S128x4096_S128x256_0_3072,
      k0_pay23 (View.ld X (Rect.unit ![0, 7680] ![128, 256] inb_S128x8192_S128x256_0_7680)) (k0_pay21 (iota Kind.tc S128x128 32 [0] iota_S128x128_d0_w32) (iota Kind.tc S128x128 32 [1] iota_S128x128_d1_w32) (View.ld X (Rect.unit ![0, 3072] ![128, 256] inb_S128x8192_S128x256_0_3072)) (View.ld X (Rect.unit ![0, 5632] ![128, 256] inb_S128x8192_S128x256_0_5632))) (k0_pay22 (iota Kind.tc S128x128 32 [0] iota_S128x128_d0_w32) (iota Kind.tc S128x128 32 [1] iota_S128x128_d1_w32) (View.ld X (Rect.unit ![0, 3072] ![128, 256] inb_S128x8192_S128x256_0_3072)) (View.ld X (Rect.unit ![0, 5632] ![128, 256] inb_S128x8192_S128x256_0_5632)))⟩,
    ⟨Rect.unit ![0, 2816] ![128, 256] inb_S128x4096_S128x256_0_2816,
      k0_pay20 (iota Kind.tc S128x128 32 [0] iota_S128x128_d0_w32) (iota Kind.tc S128x128 32 [1] iota_S128x128_d1_w32) (View.ld X (Rect.unit ![0, 2816] ![128, 256] inb_S128x8192_S128x256_0_2816)) (View.ld X (Rect.unit ![0, 5376] ![128, 256] inb_S128x8192_S128x256_0_5376)) (View.ld X (Rect.unit ![0, 7424] ![128, 256] inb_S128x8192_S128x256_0_7424))⟩,
    ⟨Rect.unit ![0, 2560] ![128, 256] inb_S128x4096_S128x256_0_2560,
      k0_pay19 (iota Kind.tc S128x128 32 [0] iota_S128x128_d0_w32) (iota Kind.tc S128x128 32 [1] iota_S128x128_d1_w32) (View.ld X (Rect.unit ![0, 2560] ![128, 256] inb_S128x8192_S128x256_0_2560)) (View.ld X (Rect.unit ![0, 5376] ![128, 256] inb_S128x8192_S128x256_0_5376)) (View.ld X (Rect.unit ![0, 7424] ![128, 256] inb_S128x8192_S128x256_0_7424))⟩,
    ⟨Rect.unit ![0, 2304] ![128, 256] inb_S128x4096_S128x256_0_2304,
      k0_pay18 (View.ld X (Rect.unit ![0, 7168] ![128, 256] inb_S128x8192_S128x256_0_7168)) (k0_pay16 (View.ld X (Rect.unit ![0, 2304] ![128, 256] inb_S128x8192_S128x256_0_2304)) (View.ld X (Rect.unit ![0, 5120] ![128, 256] inb_S128x8192_S128x256_0_5120))) (k0_pay17 (iota Kind.tc S128x128 32 [0] iota_S128x128_d0_w32) (iota Kind.tc S128x128 32 [1] iota_S128x128_d1_w32))⟩,
    ⟨Rect.unit ![0, 2048] ![128, 256] inb_S128x4096_S128x256_0_2048,
      k0_pay15 (iota Kind.tc S128x128 32 [0] iota_S128x128_d0_w32) (iota Kind.tc S128x128 32 [1] iota_S128x128_d1_w32) (View.ld X (Rect.unit ![0, 2048] ![128, 256] inb_S128x8192_S128x256_0_2048)) (View.ld X (Rect.unit ![0, 5120] ![128, 256] inb_S128x8192_S128x256_0_5120)) (View.ld X (Rect.unit ![0, 7168] ![128, 256] inb_S128x8192_S128x256_0_7168))⟩,
    ⟨Rect.unit ![0, 1792] ![128, 256] inb_S128x4096_S128x256_0_1792,
      k0_pay14 (View.ld X (Rect.unit ![0, 6912] ![128, 256] inb_S128x8192_S128x256_0_6912)) (k0_pay13 (iota Kind.tc S128x128 32 [0] iota_S128x128_d0_w32) (iota Kind.tc S128x128 32 [1] iota_S128x128_d1_w32) (View.ld X (Rect.unit ![0, 1792] ![128, 256] inb_S128x8192_S128x256_0_1792)) (View.ld X (Rect.unit ![0, 4864] ![128, 256] inb_S128x8192_S128x256_0_4864))) (constant S128x256 .f32 0x00000000#32)⟩,
    ⟨Rect.unit ![0, 1536] ![128, 256] inb_S128x4096_S128x256_0_1536,
      k0_pay12 (iota Kind.tc S128x128 32 [0] iota_S128x128_d0_w32) (iota Kind.tc S128x128 32 [1] iota_S128x128_d1_w32) (View.ld X (Rect.unit ![0, 1536] ![128, 256] inb_S128x8192_S128x256_0_1536)) (View.ld X (Rect.unit ![0, 4864] ![128, 256] inb_S128x8192_S128x256_0_4864)) (View.ld X (Rect.unit ![0, 6912] ![128, 256] inb_S128x8192_S128x256_0_6912))⟩,
    ⟨Rect.unit ![0, 1280] ![128, 256] inb_S128x4096_S128x256_0_1280,
      k0_pay11 (iota Kind.tc S128x128 32 [0] iota_S128x128_d0_w32) (iota Kind.tc S128x128 32 [1] iota_S128x128_d1_w32) (View.ld X (Rect.unit ![0, 1280] ![128, 256] inb_S128x8192_S128x256_0_1280)) (View.ld X (Rect.unit ![0, 4608] ![128, 256] inb_S128x8192_S128x256_0_4608)) (View.ld X (Rect.unit ![0, 6656] ![128, 256] inb_S128x8192_S128x256_0_6656))⟩,
    ⟨Rect.unit ![0, 1024] ![128, 256] inb_S128x4096_S128x256_0_1024,
      k0_pay10 (View.ld X (Rect.unit ![0, 6656] ![128, 256] inb_S128x8192_S128x256_0_6656)) (k0_pay9 (iota Kind.tc S128x128 32 [0] iota_S128x128_d0_w32) (iota Kind.tc S128x128 32 [1] iota_S128x128_d1_w32) (View.ld X (Rect.unit ![0, 1024] ![128, 256] inb_S128x8192_S128x256_0_1024)) (View.ld X (Rect.unit ![0, 4608] ![128, 256] inb_S128x8192_S128x256_0_4608)))⟩,
    ⟨Rect.unit ![0, 768] ![128, 256] inb_S128x4096_S128x256_0_768,
      k0_pay8 (iota Kind.tc S128x128 32 [0] iota_S128x128_d0_w32) (iota Kind.tc S128x128 32 [1] iota_S128x128_d1_w32) (View.ld X (Rect.unit ![0, 768] ![128, 256] inb_S128x8192_S128x256_0_768)) (View.ld X (Rect.unit ![0, 4352] ![128, 256] inb_S128x8192_S128x256_0_4352)) (View.ld X (Rect.unit ![0, 6400] ![128, 256] inb_S128x8192_S128x256_0_6400))⟩,
    ⟨Rect.unit ![0, 512] ![128, 256] inb_S128x4096_S128x256_0_512,
      k0_pay7 (iota Kind.tc S128x128 32 [0] iota_S128x128_d0_w32) (iota Kind.tc S128x128 32 [1] iota_S128x128_d1_w32) (View.ld X (Rect.unit ![0, 512] ![128, 256] inb_S128x8192_S128x256_0_512)) (View.ld X (Rect.unit ![0, 4352] ![128, 256] inb_S128x8192_S128x256_0_4352)) (View.ld X (Rect.unit ![0, 6400] ![128, 256] inb_S128x8192_S128x256_0_6400))⟩,
    ⟨Rect.unit ![0, 256] ![128, 256] inb_S128x4096_S128x256_0_256,
      k0_pay6 (View.ld X (Rect.unit ![0, 6144] ![128, 256] inb_S128x8192_S128x256_0_6144)) (k0_pay5 (View.ld X (Rect.unit ![0, 256] ![128, 256] inb_S128x8192_S128x256_0_256)) (View.ld X (Rect.unit ![0, 4096] ![128, 256] inb_S128x8192_S128x256_0_4096)))⟩,
    ⟨Rect.unit ![0, 0] ![128, 256] inb_S128x4096_S128x256_0_0,
      k0_pay4 (View.ld X (Rect.unit ![0, 0] ![128, 256] inb_S128x8192_S128x256_0_0)) (View.ld X (Rect.unit ![0, 4096] ![128, 256] inb_S128x8192_S128x256_0_4096)) (View.ld X (Rect.unit ![0, 6144] ![128, 256] inb_S128x8192_S128x256_0_6144))⟩] y = G X y := by
  refine View.canon_apply_of_pieces (Val := Elt Ideal) (e := .f32) (G X) _ ?_ y ?_
  · refine List.forall_mem_cons.mpr ⟨fun x => (congrFun (head15_eq _ _ _) x).trans (piece X 15 3840 5888 7936 rfl rfl rfl inb_S128x4096_S128x256_0_3840 _ _ _ x), ?_⟩
    refine List.forall_mem_cons.mpr ⟨fun x => (congrFun (head14_eq _ _ _) x).trans (piece X 14 3584 5888 7936 rfl rfl rfl inb_S128x4096_S128x256_0_3584 _ _ _ x), ?_⟩
    refine List.forall_mem_cons.mpr ⟨fun x => (congrFun (head13_eq _ _ _) x).trans (piece X 13 3328 5632 7680 rfl rfl rfl inb_S128x4096_S128x256_0_3328 _ _ _ x), ?_⟩
    refine List.forall_mem_cons.mpr ⟨fun x => (congrFun (head12_eq _ _ _) x).trans (piece X 12 3072 5632 7680 rfl rfl rfl inb_S128x4096_S128x256_0_3072 _ _ _ x), ?_⟩
    refine List.forall_mem_cons.mpr ⟨fun x => (congrFun (head11_eq _ _ _) x).trans (piece X 11 2816 5376 7424 rfl rfl rfl inb_S128x4096_S128x256_0_2816 _ _ _ x), ?_⟩
    refine List.forall_mem_cons.mpr ⟨fun x => (congrFun (head10_eq _ _ _) x).trans (piece X 10 2560 5376 7424 rfl rfl rfl inb_S128x4096_S128x256_0_2560 _ _ _ x), ?_⟩
    refine List.forall_mem_cons.mpr ⟨fun x => (congrFun (head9_eq _ _ _) x).trans (piece X 9 2304 5120 7168 rfl rfl rfl inb_S128x4096_S128x256_0_2304 _ _ _ x), ?_⟩
    refine List.forall_mem_cons.mpr ⟨fun x => (congrFun (head8_eq _ _ _) x).trans (piece X 8 2048 5120 7168 rfl rfl rfl inb_S128x4096_S128x256_0_2048 _ _ _ x), ?_⟩
    refine List.forall_mem_cons.mpr ⟨fun x => (congrFun (head7_eq _ _ _) x).trans (piece X 7 1792 4864 6912 rfl rfl rfl inb_S128x4096_S128x256_0_1792 _ _ _ x), ?_⟩
    refine List.forall_mem_cons.mpr ⟨fun x => (congrFun (head6_eq _ _ _) x).trans (piece X 6 1536 4864 6912 rfl rfl rfl inb_S128x4096_S128x256_0_1536 _ _ _ x), ?_⟩
    refine List.forall_mem_cons.mpr ⟨fun x => (congrFun (head5_eq _ _ _) x).trans (piece X 5 1280 4608 6656 rfl rfl rfl inb_S128x4096_S128x256_0_1280 _ _ _ x), ?_⟩
    refine List.forall_mem_cons.mpr ⟨fun x => (congrFun (head4_eq _ _ _) x).trans (piece X 4 1024 4608 6656 rfl rfl rfl inb_S128x4096_S128x256_0_1024 _ _ _ x), ?_⟩
    refine List.forall_mem_cons.mpr ⟨fun x => (congrFun (head3_eq _ _ _) x).trans (piece X 3 768 4352 6400 rfl rfl rfl inb_S128x4096_S128x256_0_768 _ _ _ x), ?_⟩
    refine List.forall_mem_cons.mpr ⟨fun x => (congrFun (head2_eq _ _ _) x).trans (piece X 2 512 4352 6400 rfl rfl rfl inb_S128x4096_S128x256_0_512 _ _ _ x), ?_⟩
    refine List.forall_mem_cons.mpr ⟨fun x => (congrFun (head1_eq _ _ _) x).trans (piece X 1 256 4096 6144 rfl rfl rfl inb_S128x4096_S128x256_0_256 _ _ _ x), ?_⟩
    refine List.forall_mem_cons.mpr ⟨fun x => (piece X 0 0 4096 6144 rfl rfl rfl inb_S128x4096_S128x256_0_0 _ _ _ x), ?_⟩
    exact fun p hp => absurd hp List.not_mem_nil
  · obtain ⟨s, n, rfl⟩ : ∃ (s : Fin 128) (n : Fin 4096), y = ix2 s n := ⟨_, _, eq_ix2 y⟩
    have e0 : ((ix2 s n : S128x4096.Idx) 0).val = s.val := rfl
    have e1 : ((ix2 s n : S128x4096.Idx) 1).val = n.val := rfl
    simp only [List.exists_mem_cons_iff, Rect.mem_set_unit, Fin.forall_fin_two, e0, e1, Matrix.cons_val_zero, Matrix.cons_val_one,
      List.not_mem_nil, false_and, exists_false]
    omega

/-- Each row's y. -/
theorem pay29_eq (U : Vec Ideal S128x4096 .f32) : k0_pay29 U = yV U reduces_S128x4096_S128 shapeCasts_S128_S128x1 := rfl

/-- The first two steps of the search. -/
theorem pay30_eq (U : Vec Ideal S128x4096 .f32) :
    k0_pay30 U = stepV (k0_pay29 U) 64#32 (stepV (k0_pay29 U) 128#32 (broadcast S128x1 0#32)) := rfl

/-- The next five steps. -/
theorem pay33_eq (y : FVec Ideal S128x1 .f32) (ex : IVec S128x1 32) :
    k0_pay33 y ex (cmpf .oge y (bitcastToFloat .f32 (shli (addi ex (broadcast S128x1 32#32)) (broadcast S128x1 23#32)))) k0_pay32
      = stepV y 2#32 (stepV y 4#32 (stepV y 8#32 (stepV y 16#32 (stepV y 32#32 ex)))) := rfl

/-- The last step and the exponent. -/
theorem pay1_eq (y : FVec Ideal S128x1 .f32) (ex : IVec S128x1 32) :
    k0_pay1 ex (cmpf .oge y (bitcastToFloat .f32 (shli (addi ex (broadcast S128x1 1#32)) (broadcast S128x1 23#32)))) k0_pay35
      = select (cmpi .eq (stepV y 1#32 ex) (broadcast S128x1 0#32)) (broadcast S128x1 0#32) (subi (stepV y 1#32 ex) (broadcast S128x1 126#32)) := rfl

/-- The exponent a grid point finds for each of its rows. -/
theorem exp_pay (U : Vec Ideal S128x4096 .f32) :
    k0_pay1 (k0_pay33 (k0_pay29 U) (k0_pay30 U) (k0_pay31 U) k0_pay32) (k0_pay34 (k0_pay29 U) (k0_pay30 U) (k0_pay31 U) k0_pay32) k0_pay35
      = kexpV (k0_pay29 U) := by
  unfold k0_pay34
  rw [pay1_eq]
  unfold k0_pay31
  rw [pay33_eq, pay30_eq]
  rfl

/-- The scales a grid point stores. -/
theorem scale_point (U : Vec Ideal S128x4096 .f32) (i : S128x1.Idx) :
    k0_pay2 (F := Ideal) (k0_pay33 (k0_pay29 U) (k0_pay30 U) (k0_pay31 U) k0_pay32) (k0_pay34 (k0_pay29 U) (k0_pay30 U) (k0_pay31 U) k0_pay32) k0_pay35 i
      = rowScale fun k : Fin 4096 => U (ix2 (i 0) k) := by
  unfold k0_pay2
  rw [exp_pay, pay29_eq]
  exact kscale_yV _ _ _ i

/-- The codes a grid point stores. -/
theorem code_point (U : Vec Ideal S128x4096 .f32) (i : S128x4096.Idx) :
    k0_pay3 U (k0_pay33 (k0_pay29 U) (k0_pay30 U) (k0_pay31 U) k0_pay32) (k0_pay34 (k0_pay29 U) (k0_pay30 U) (k0_pay31 U) k0_pay32) k0_pay35 i
      = rowCode (fun k : Fin 4096 => U (ix2 (i 0) k)) (U i) := by
  unfold k0_pay3
  rw [exp_pay, pay29_eq]
  exact kcodes_yV _ _ _ _ _ i

/-- The quantiser reads the whole scratch. -/
theorem whole_idx (j : S128x4096.Idx) : (Rect.unit (s := S128x4096) ![0, 0] ![128, 4096] inb_S128x4096_S128x4096_0_0).idx j = j := by
  funext e
  match e with
  | 0 => exact Fin.ext ((Rect.idx_unit_val (s := S128x4096) ![0, 0] ![128, 4096] inb_S128x4096_S128x4096_0_0 j 0).trans (Nat.zero_add _))
  | 1 => exact Fin.ext ((Rect.idx_unit_val (s := S128x4096) ![0, 0] ![128, 4096] inb_S128x4096_S128x4096_0_0 j 1).trans (Nat.zero_add _))

/-- A grid point's rows are the whole array's. -/
theorem u_point (c : Dev nD) (t : Fin cfg0.N) (s : Fin 128) (k : Fin 4096) :
    G (iblk m c 0 t) (ix2 s k) = row (m ((c : Thread nD τ).loc main_arg0))
      ⟨128 * t.val + s.val, by have := t.isLt; have : t.val < 12 := this; omega⟩ k := by
  have ht : t.val < 12 := t.isLt
  unfold G row
  have e : (fun (p : Fin 128) (d : Fin 8192) => iblk m c 0 t (ix2 p d)) = fun p d => m ((c : Thread nD τ).loc main_arg0)
      (ix2 ⟨(128 * t.val + s.val) / 128 * 128 + p.val, by omega⟩ d) := by
    have h1 : (128 * t.val + s.val) / 128 = t.val := by omega
    funext p d
    simp only [h1]
    blk_point [iblk, V, idx t]
  have h2 : (128 * t.val + s.val) % 128 = s.val := by omega
  simp only [h2, e]
  rfl

/-- After the run the scales are each row's scale. -/
theorem final_scale (c : Dev nD) : (dats m 0 c).arrAt 2 (cfgs 0).N
    = fun i => rowScale (row (m ((c : Thread nD τ).loc main_arg0)) (i 0)) := by
  refine (dats m 0 c).arrAt_eq_of_covers 2 _ (by decide +kernel) fun t _ y => ?_
  blk_simp
  rw [after0_2]
  unfold outsAt0
  frame_out
  refine (scale_point _ _).trans (congrArg rowScale (funext fun k => ?_))
  rw [View.readCov_eq_canon']
  refine (scratch _ _).trans ?_
  refine (congrArg (G _) ((whole_idx _).trans (eq_ix2 _))).trans ?_
  refine (u_point m c t _ _).trans ?_
  refine row_congr _ ?_ rfl
  blk_simp [idx t]
  exact congrArg (· + _) (Nat.mul_comm _ _)

/-- After the run the codes are each row's codes. -/
theorem final_code (c : Dev nD) : (dats m 0 c).arrAt 1 (cfgs 0).N
    = fun i => rowCode (row (m ((c : Thread nD τ).loc main_arg0)) (i 0)) (row (m ((c : Thread nD τ).loc main_arg0)) (i 0) (i 1)) := by
  refine (dats m 0 c).arrAt_eq_of_covers 1 _ (by decide +kernel) fun t _ y => ?_
  blk_simp
  rw [after0_1]
  unfold outsAt0
  frame_out
  refine (code_point _ _).trans (congr (congrArg rowCode (funext fun k => ?_)) ?_)
  · rw [View.readCov_eq_canon']
    refine (scratch _ _).trans ?_
    refine (congrArg (G _) ((whole_idx _).trans (eq_ix2 _))).trans ?_
    refine (u_point m c t _ _).trans ?_
    refine row_congr _ ?_ rfl
    blk_simp [idx t]
    exact congrArg (· + _) (Nat.mul_comm _ _)
  · rw [View.readCov_eq_canon']
    refine (scratch _ _).trans ?_
    refine (congrArg (G _) ((whole_idx _).trans (eq_ix2 _))).trans ?_
    refine (u_point m c t _ _).trans ?_
    refine row_congr _ ?_ ?_
    · blk_simp [idx t]
      exact congrArg (· + _) (Nat.mul_comm _ _)
    · blk_simp [idx t]

end Cert.AttnIdeal.Codes

namespace Cert.AttnRefIdeal.Codes
open Cert.AttnRefIdeal Cert.AttnRefIdeal.Gen Cert.Quantiser Cert.Head

variable (m : (ℓ : Loc nD τ sig) → Buf (Elt Ideal) ℓ)

/-- The queries by batch, position, key head and query head of the group. -/
def qA (x : Vec Ideal S1536x8192 .bf16) : Vec Ideal S12x128x8x2x256 .bf16 :=
  shapeCast S12x128x8x2x256 (extractStridedSlice S12x128x4096 ![0, 0, 0] (shapeCast S12x128x8192 x shapeCasts_S1536x8192_S12x128x8192)
    slices_S12x128x8192_S12x128x4096_0_0_0) shapeCasts_S12x128x4096_S12x128x8x2x256

/-- The keys by batch, position and key head. -/
def kA (x : Vec Ideal S1536x8192 .bf16) : Vec Ideal S12x128x8x256 .bf16 :=
  shapeCast S12x128x8x256 (extractStridedSlice S12x128x2048 ![0, 0, 4096] (shapeCast S12x128x8192 x shapeCasts_S1536x8192_S12x128x8192)
    slices_S12x128x8192_S12x128x2048_0_0_4096) shapeCasts_S12x128x2048_S12x128x8x256

/-- The values by batch, position and key head. -/
def vA (x : Vec Ideal S1536x8192 .bf16) : Vec Ideal S12x128x8x256 .bf16 :=
  shapeCast S12x128x8x256 (extractStridedSlice S12x128x2048 ![0, 0, 6144] (shapeCast S12x128x8192 x shapeCasts_S1536x8192_S12x128x8192)
    slices_S12x128x8192_S12x128x2048_0_0_6144) shapeCasts_S12x128x2048_S12x128x8x256

/-- The masked scores. -/
def sA (q : Vec Ideal S12x128x8x2x256 .bf16) (k : Vec Ideal S12x128x8x256 .bf16) : FVec Ideal S12x8x2x128x128 .f32 :=
  select (broadcastInDim S12x8x2x128x128 ![3, 4] bcast_S128x128_S12x8x2x128x128_3_4
      (cmpi .sle (broadcastInDim S128x128 ![0, 1] bcast_S1x128_S128x128_0_1 (broadcastInDim S1x128 ![1] bcast_S128_S1x128_1 (iotaInDim S128 32 0)))
        (broadcastInDim S128x128 ![0, 1] bcast_S128x1_S128x128_0_1 (broadcastInDim S128x1 ![0] bcast_S128_S128x1_0 (iotaInDim S128 32 0)))))
    (mulf (transpose S12x8x2x128x128 [0, 1, 4, 3, 2]
        (Host.dotGeneral (F := Ideal) (φ₁ := .bf16) (φ₂ := .bf16) dot_S12x128x8x256_S12x128x8x2x256_S12x8x128x128x2_3_4_1_13_02_02 none k q : FVec Ideal S12x8x128x128x2 .f32)
        transposes_S12x8x128x128x2_S12x8x2x128x128_0_1_4_3_2)
      (broadcastInDim S12x8x2x128x128 ![] bcast_S_S12x8x2x128x128 (constant (F := Ideal) S_ .f32 0x3D800000#32)))
    (broadcastInDim S12x8x2x128x128 ![] bcast_S_S12x8x2x128x128 (constant (F := Ideal) S_ .f32 0xFF800000#32))

/-- The greatest score of each row. -/
def mA (s : FVec Ideal S12x8x2x128x128 .f32) : FVec Ideal S12x8x2x128 .f32 :=
  Host.reduce FloatOps.maximumf s (constant (F := Ideal) S_ .f32 0xFF800000#32) reducesTo_S12x8x2x128x128_S12x8x2x128_d4 h_S_

/-- A number per row, for each of the row's entries. -/
def bA (M : FVec Ideal S12x8x2x128 .f32) : FVec Ideal S12x8x2x128x128 .f32 :=
  broadcastInDim S12x8x2x128x128 ![0, 1, 2, 3, 4] bcast_S12x8x2x128x1_S12x8x2x128x128_0_1_2_3_4
    (broadcastInDim S12x8x2x128x1 ![0, 1, 2, 3] bcast_S12x8x2x128_S12x8x2x128x1_0_1_2_3 M)

/-- The greater of a row's number and minus infinity. -/
def nA (M : FVec Ideal S12x8x2x128 .f32) : FVec Ideal S12x8x2x128 .f32 :=
  maximumf (broadcastInDim S12x8x2x128 ![] bcast_S_S12x8x2x128 (constant (F := Ideal) S_ .f32 0xFF800000#32)) M

/-- The exponentials. -/
def wA (s : FVec Ideal S12x8x2x128x128 .f32) : FVec Ideal S12x8x2x128x128 .f32 := Host.exp (subf s (bA (nA (mA s))))

/-- The softmax. -/
def pA (w : FVec Ideal S12x8x2x128x128 .f32) : FVec Ideal S12x8x2x128x128 .bf16 :=
  truncf .bf16 (Host.divf w (broadcastInDim S12x8x2x128x128 ![0, 1, 2, 3, 4] bcast_S12x8x2x128x1_S12x8x2x128x128_0_1_2_3_4
    (broadcastInDim S12x8x2x128x1 ![0, 1, 2, 3] bcast_S12x8x2x128_S12x8x2x128x1_0_1_2_3
      (Host.reduceAdd w (constant (F := Ideal) S_ .f32 0x00000000#32) reducesTo_S12x8x2x128x128_S12x8x2x128_d4 h_S_)))) bitsLt_bf16_f32

/-- The weighted sums of the values, a row of all heads per position. -/
def oA (v : Vec Ideal S12x128x8x256 .bf16) (p : FVec Ideal S12x8x2x128x128 .bf16) : FVec Ideal S1536x4096 .f32 :=
  shapeCast S1536x4096 (transpose S12x128x8x2x256 [0, 4, 1, 3, 2]
    (Host.dotGeneral (F := Ideal) (φ₁ := .bf16) (φ₂ := .bf16) dot_S12x128x8x256_S12x8x2x128x128_S12x8x256x2x128_1_4_3_23_02_01 none v p : FVec Ideal S12x8x256x2x128 .f32)
    transposes_S12x8x256x2x128_S12x128x8x2x256_0_4_1_3_2) shapeCasts_S12x128x8x2x256_S1536x4096

/-- A masked score. -/
theorem sA_apply (q k) (b : Fin 12) (h : Fin 8) (g : Fin 2) (s t : Fin 128) : sA q k (ix5 b h g s t)
    = score (fun d => q (ix5 b s h g d)) (fun t d => k (ix4 b t h d)) s t := by
  unfold score sA
  pointwise []
  simp only [mul_comm]

/-- The greatest score of a row. -/
theorem mA_apply (w) (b : Fin 12) (h : Fin 8) (g : Fin 2) (s : Fin 128) : mA w (ix4 b h g s)
    = Finset.fold emax (Ideal.ofBits .f32 4286578688#32) (fun t : Fin 128 => w (ix5 b h g s t)) Finset.univ := by
  unfold mA
  have hr : S12x8x2x128x128.Reduces [4] S12x8x2x128 := by decide +kernel
  refine (Host.reduce_eq_fold_single (α := Ideal .f32) (a := 4) FloatOps.maximumf w _ _ hr h_S_ (ix4 b h g s)).trans ?_
  have e : (w ∘ hr.lift (ix4 b h g s) : Fin 128 → EReal) = fun t : Fin 128 => w (ix5 b h g s t) := by
    funext t
    refine congrArg w (funext fun a => ?_)
    match a with
    | 0 => rfl
    | 1 => rfl
    | 2 => rfl
    | 3 => rfl
    | 4 => rfl
  show Finset.fold emax _ (w ∘ hr.lift (ix4 b h g s) : Fin 128 → EReal) Finset.univ = _
  rw [e]
  rfl

/-- A row's greatest score is at least minus infinity. -/
theorem neg_inf : Ideal.ofBits .f32 4286578688#32 = ⊥ := by
  unfold Ideal.ofBits
  show Ideal.ieee 8 23 _ = ⊥
  unfold Ideal.ieee
  rw [if_pos (by decide +kernel), if_pos (by decide +kernel)]
  rfl

/-- The cut at minus infinity changes nothing. -/
theorem nA_apply (M) (j : S12x8x2x128.Idx) : nA M j = M j := by
  show max (Ideal.ofBits .f32 4286578688#32 : EReal) (M j) = _
  rw [neg_inf]
  exact max_eq_right bot_le

/-- A row's number, at each entry. -/
theorem bA_apply (M) (b : Fin 12) (h : Fin 8) (g : Fin 2) (s t : Fin 128) : bA M (ix5 b h g s t) = M (ix4 b h g s) := by
  unfold bA
  pointwise []

/-- An exponential. -/
theorem wA_apply (w) (b : Fin 12) (h : Fin 8) (g : Fin 2) (s t : Fin 128) : wA w (ix5 b h g s t)
    = Ideal.exp (w (ix5 b h g s t) - Finset.fold emax (Ideal.ofBits .f32 4286578688#32) (fun t => w (ix5 b h g s t)) Finset.univ) := by
  rw [← mA_apply, ← nA_apply (mA w), ← bA_apply (nA (mA w)) b h g s t]
  rfl

/-- A softmax entry. -/
theorem pA_apply (w) (b : Fin 12) (h : Fin 8) (g : Fin 2) (s t : Fin 128) : pA w (ix5 b h g s t)
    = Ideal.div (w (ix5 b h g s t)) (∑ u : Fin 128, w (ix5 b h g s u)) := by
  unfold pA
  pointwise []

/-- A weighted sum of the values. -/
theorem oA_apply (v p) (r : Fin 1536) (n : Fin 4096) : oA v p (ix2 r n)
    = ∑ t : Fin 128, p (ix5 ⟨r.val / 128, by omega⟩ ⟨n.val / 256 / 2, by omega⟩ ⟨n.val / 256 % 2, by omega⟩ ⟨r.val % 128, by omega⟩ t)
      * v (ix4 ⟨r.val / 128, by omega⟩ t ⟨n.val / 256 / 2, by omega⟩ ⟨n.val % 256, by omega⟩) := by
  unfold oA
  pointwise []
  have hn : n.val / 512 = n.val / 256 / 2 := by omega
  simp only [hn]
  exact Finset.sum_congr rfl fun t _ => mul_comm _ _

/-- A query. -/
theorem qA_apply (x) (b : Fin 12) (s : Fin 128) (h : Fin 8) (g : Fin 2) (d : Fin 256) : qA x (ix5 b s h g d)
    = x (ix2 ⟨b.val * 128 + s.val, by omega⟩ ⟨256 * (2 * h.val + g.val) + d.val, by omega⟩) := by
  unfold qA
  pointwise []
  exact congrArg x (congrArg (ix2 _) (Fin.ext (by show _ = _; simp only []; omega)))

/-- A key. -/
theorem kA_apply (x) (b : Fin 12) (s : Fin 128) (h : Fin 8) (d : Fin 256) : kA x (ix4 b s h d)
    = x (ix2 ⟨b.val * 128 + s.val, by omega⟩ ⟨4096 + 256 * h.val + d.val, by omega⟩) := by
  unfold kA
  pointwise []
  exact congrArg x (congrArg (ix2 _) (Fin.ext (by show _ = _; simp only []; omega)))

/-- A value. -/
theorem vA_apply (x) (b : Fin 12) (s : Fin 128) (h : Fin 8) (d : Fin 256) : vA x (ix4 b s h d)
    = x (ix2 ⟨b.val * 128 + s.val, by omega⟩ ⟨6144 + 256 * h.val + d.val, by omega⟩) := by
  unfold vA
  pointwise []
  exact congrArg x (congrArg (ix2 _) (Fin.ext (by show _ = _; simp only []; omega)))

/-- The array the reference quantises, by its stages. -/
theorem stages (c : Dev nD) : (V m c main_v34 : S1536x4096.Idx → EReal)
    = oA (vA (m ((c : Thread nD τ).loc main_arg0))) (pA (wA (sA (qA (m ((c : Thread nD τ).loc main_arg0))) (kA (m ((c : Thread nD τ).loc main_arg0)))))) := by
  entry_read
  unfold oA vA pA wA bA nA mA sA qA kA
  exact rfl

/-- The rows the reference quantises. -/
theorem V34 (c : Dev nD) (r : Fin 1536) (n : Fin 4096) : (V m c main_v34 : S1536x4096.Idx → EReal) (ix2 r n)
    = row (m ((c : Thread nD τ).loc main_arg0)) r n := by
  rw [stages, oA_apply]
  unfold row heads attended weight
  have hg : 2 * (n.val / 256 / 2) + n.val / 256 % 2 = n.val / 256 := by omega
  simp only [pA_apply, wA_apply, sA_apply, vA_apply, qA_apply, kA_apply, hg]

/-- The reference has one block, the whole array. -/
theorem idx : ∀ t : Fin cfg0.N, win0_0.index t = ![0, 0] ∧ win0_1.index t = ![0, 0] ∧ win0_2.index t = ![0, 0] :=
  (by decide +kernel : ∀ t : Fin grid0.N, _)

/-- The reference's cast to its own shape is the identity. -/
theorem pay1_eq (v : Vec Ideal S1536x4096 .f32) : k0_pay1 v = v := by
  unfold k0_pay1
  exact shapeCast_id _ _

/-- Each row's exponent. -/
theorem pay2_eq (v : Vec Ideal S1536x4096 .f32) :
    k0_pay2 v = rexpV (yV (k0_pay1 v) reduces_S1536x4096_S1536 shapeCasts_S1536_S1536x1) := rfl

/-- The reference's scales. -/
theorem scale_point (x : Vec Ideal S1536x4096 .f32) (i : S1536x1.Idx) :
    k0_pay4 (F := Ideal) x i = rowScale fun k : Fin 4096 => x (ix2 (i 0) k) := by
  unfold k0_pay4
  rw [pay2_eq, pay1_eq]
  exact rscale_yV _ _ _ i

/-- The reference's codes. -/
theorem code_point (x : Vec Ideal S1536x4096 .f32) (i : S1536x4096.Idx) :
    k0_pay3 (F := Ideal) x i = rowCode (fun k : Fin 4096 => x (ix2 (i 0) k)) (x i) := by
  unfold k0_pay3
  rw [pay2_eq, pay1_eq]
  exact rcodes_yV _ _ _ _ _ i

/-- After the run the scales are each row's scale. -/
theorem final_scale (c : Dev nD) : (dats m 0 c).arrAt 2 (cfgs 0).N
    = fun i => rowScale (row (m ((c : Thread nD τ).loc main_arg0)) (i 0)) := by
  refine (dats m 0 c).arrAt_eq_of_covers 2 _ (by decide +kernel) fun t _ y => ?_
  blk_simp
  rw [after0_2]; frame_out
  refine (scale_point _ _).trans (congrArg rowScale (funext fun k => ?_))
  refine Eq.trans ?_ (V34 m c _ k)
  blk_point [iblk, idx t]

/-- After the run the codes are each row's codes. -/
theorem final_code (c : Dev nD) : (dats m 0 c).arrAt 1 (cfgs 0).N
    = fun i => rowCode (row (m ((c : Thread nD τ).loc main_arg0)) (i 0)) (row (m ((c : Thread nD τ).loc main_arg0)) (i 0) (i 1)) := by
  refine (dats m 0 c).arrAt_eq_of_covers 1 _ (by decide +kernel) fun t _ y => ?_
  blk_simp
  rw [after0_1]; frame_out
  refine (code_point _ _).trans (congr (congrArg rowCode (funext fun k => ?_)) ?_)
  · refine Eq.trans ?_ (V34 m c _ k)
    blk_point [iblk, idx t]
  · refine Eq.trans ?_ (V34 m c _ _)
    blk_point [iblk, idx t]

end Cert.AttnRefIdeal.Codes

end
-- ==== Proof.OProjProduct.lean ====
/- The output projection: each grid point computes 512 columns; together they are the whole array. -/
module

public import proofs.«01_k».proof.Proof.Gen.OProjIdeal.Frame
public import proofs.«01_k».proof.Proof.Gen.OProjRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OProjIdeal.Product
open Cert.OProjIdeal Cert.OProjIdeal.Gen

variable (m : (ℓ : Loc nD τ sig) → Buf (Elt Ideal) ℓ)

/-- Which block of its array each window holds at a grid point. -/
theorem idx : ∀ t : Fin cfg0.N, win0_0.index t = ![0, 0] ∧ win0_1.index t = ![0, 0] ∧ win0_2.index t = ![0, t.val] ∧ win0_3.index t = ![0, t.val] ∧ win0_4.index t = ![0, t.val] :=
  (by decide +kernel : ∀ t : Fin grid0.N, _)

/-- What a grid point computes, at an index of its block: the reference's value at that index of the whole array. -/
theorem point (c : Dev nD) (t : Fin cfg0.N) (y) :
    k0_pay1 (iblk m c 0 t) (iblk m c 2 t) (iblk m c 1 t) (iblk m c 3 t) y
      = Cert.OProjRefIdeal.Gen.k0_pay1 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.OProjRefIdeal.Gen.k0_pay1]
  blk_point [iblk, V, idx t]

/-- After the run the kernel's result array is the reference's result of the same arguments. -/
theorem final (c : Dev nD) : (dats m 0 c).arrAt 4 (cfgs 0).N
    = Cert.OProjRefIdeal.Gen.k0_pay1 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.OProjIdeal.Product

end
-- ==== Proof.MidValue.lean ====
/- The second quantised rows: each grid point updates the streams of 64 positions with the first sublayer's output,
   weighs them, normalises and quantises them; together they are the whole array. -/
module

public import proofs.«01_k».proof.Proof.Gen.MidIdeal.Frame
public import proofs.«01_k».proof.Proof.Gen.MidRefIdeal.Frame
public import proofs.«01_k».proof.Proof.QuantiserScale
public import proofs.«01_k».proof.Proof.NormedRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MidIdeal.Codes
open Cert.MidIdeal Cert.MidIdeal.Gen Cert.Quantiser Cert.Row

variable (m : (ℓ : Loc nD τ sig) → Buf (Elt Ideal) ℓ)

/-- The normalised row of a position, after its streams are mixed and the sublayer's output is added to each. -/
def row (w : Vec Ideal S4x4 .f32) (b a : Vec Ideal S4 .f32) (g : Vec Ideal S3584 .f32) (x : Vec Ideal S12x128x4x3584 .bf16) (y : Vec Ideal S1536x3584 .f32)
    (r : Fin 1536) (d : Fin 3584) : EReal :=
  normed (mixed (fun n => a (ix1 n)) (updated (fun p q => w (ix2 p q)) (fun n => b (ix1 n))
    (fun n d => x (ix4 ⟨r.val / 128, by omega⟩ ⟨r.val % 128, by omega⟩ n d)) (fun d => y (ix2 r d)))) (fun d => g (ix1 d)) d

/-- Which block of its array each window holds at a grid point. -/
theorem idx : ∀ t : Fin cfg0.N, win0_0.index t = ![0, 0] ∧ win0_1.index t = ![0] ∧ win0_2.index t = ![0] ∧ win0_3.index t = ![0, 0]
    ∧ win0_4.index t = ![t.val / 2, t.val % 2, 0, 0] ∧ win0_5.index t = ![t.val, 0]
    ∧ win0_6.index t = ![t.val, 0] ∧ win0_7.index t = ![t.val, 0] :=
  (by decide +kernel : ∀ t : Fin grid0.N, _)

/-- The weighted streams of a grid point's rows. -/
abbrev hB (w : Vec Ideal S4x4 .f32) (b a : Vec Ideal S4 .f32) (x : Vec Ideal S1x64x4x3584 .bf16) (y : Vec Ideal S64x3584 .f32) : FVec Ideal S64x3584 .f32 :=
  k0_pay11 (k0_pay4 (View.ld x (Rect.unit ![0, 0, 0, 0] ![1, 64, 1, 3584] inb_S1x64x4x3584_S1x64x1x3584_0_0_0_0)))
      (k0_pay5 (View.ld x (Rect.unit ![0, 0, 1, 0] ![1, 64, 1, 3584] inb_S1x64x4x3584_S1x64x1x3584_0_0_1_0)))
      (k0_pay6 (View.ld x (Rect.unit ![0, 0, 2, 0] ![1, 64, 1, 3584] inb_S1x64x4x3584_S1x64x1x3584_0_0_2_0)))
      (k0_pay7 (View.ld x (Rect.unit ![0, 0, 3, 0] ![1, 64, 1, 3584] inb_S1x64x4x3584_S1x64x1x3584_0_0_3_0)))
      (k0_pay9 (k0_pay4 (View.ld x (Rect.unit ![0, 0, 0, 0] ![1, 64, 1, 3584] inb_S1x64x4x3584_S1x64x1x3584_0_0_0_0)))
      (k0_pay5 (View.ld x (Rect.unit ![0, 0, 1, 0] ![1, 64, 1, 3584] inb_S1x64x4x3584_S1x64x1x3584_0_0_1_0)))
      (k0_pay6 (View.ld x (Rect.unit ![0, 0, 2, 0] ![1, 64, 1, 3584] inb_S1x64x4x3584_S1x64x1x3584_0_0_2_0)))
      (k0_pay7 (View.ld x (Rect.unit ![0, 0, 3, 0] ![1, 64, 1, 3584] inb_S1x64x4x3584_S1x64x1x3584_0_0_3_0)))
      (k0_pay8 (View.ld x (Rect.unit ![0, 0, 0, 0] ![1, 64, 1, 3584] inb_S1x64x4x3584_S1x64x1x3584_0_0_0_0))
      (View.ld x (Rect.unit ![0, 0, 1, 0] ![1, 64, 1, 3584] inb_S1x64x4x3584_S1x64x1x3584_0_0_1_0))
      (View.ld x (Rect.unit ![0, 0, 2, 0] ![1, 64, 1, 3584] inb_S1x64x4x3584_S1x64x1x3584_0_0_2_0))
      (View.ld x (Rect.unit ![0, 0, 3, 0] ![1, 64, 1, 3584] inb_S1x64x4x3584_S1x64x1x3584_0_0_3_0))
      (View.ld w (Rect.unit ![0, 0] ![1, 1] inb_S4x4_S1x1_0_0) (Shape.Idx.first (by decide)))
      (View.ld w (Rect.unit ![1, 0] ![1, 1] inb_S4x4_S1x1_1_0) (Shape.Idx.first (by decide)))
      (View.ld w (Rect.unit ![2, 0] ![1, 1] inb_S4x4_S1x1_2_0) (Shape.Idx.first (by decide)))
      (View.ld w (Rect.unit ![3, 0] ![1, 1] inb_S4x4_S1x1_3_0) (Shape.Idx.first (by decide)))
      (View.ld b (Rect.unit ![0] ![1] inb_S4_S1_0) (Shape.Idx.first (by decide))) y)
      (View.ld a (Rect.unit ![0] ![1] inb_S4_S1_0) (Shape.Idx.first (by decide)))
      (View.ld w (Rect.unit ![0, 1] ![1, 1] inb_S4x4_S1x1_0_1) (Shape.Idx.first (by decide)))
      (View.ld w (Rect.unit ![1, 1] ![1, 1] inb_S4x4_S1x1_1_1) (Shape.Idx.first (by decide)))
      (View.ld w (Rect.unit ![2, 1] ![1, 1] inb_S4x4_S1x1_2_1) (Shape.Idx.first (by decide)))
      (View.ld w (Rect.unit ![3, 1] ![1, 1] inb_S4x4_S1x1_3_1) (Shape.Idx.first (by decide)))
      (View.ld b (Rect.unit ![1] ![1] inb_S4_S1_1) (Shape.Idx.first (by decide))) y (View.ld a (Rect.unit ![1] ![1] inb_S4_S1_1) (Shape.Idx.first (by decide))))
      (k0_pay10 (k0_pay4 (View.ld x (Rect.unit ![0, 0, 0, 0] ![1, 64, 1, 3584] inb_S1x64x4x3584_S1x64x1x3584_0_0_0_0)))
      (k0_pay5 (View.ld x (Rect.unit ![0, 0, 1, 0] ![1, 64, 1, 3584] inb_S1x64x4x3584_S1x64x1x3584_0_0_1_0)))
      (k0_pay6 (View.ld x (Rect.unit ![0, 0, 2, 0] ![1, 64, 1, 3584] inb_S1x64x4x3584_S1x64x1x3584_0_0_2_0)))
      (View.ld w (Rect.unit ![0, 2] ![1, 1] inb_S4x4_S1x1_0_2) (Shape.Idx.first (by decide)))
      (View.ld w (Rect.unit ![1, 2] ![1, 1] inb_S4x4_S1x1_1_2) (Shape.Idx.first (by decide)))
      (View.ld w (Rect.unit ![2, 2] ![1, 1] inb_S4x4_S1x1_2_2) (Shape.Idx.first (by decide))))
      (View.ld w (Rect.unit ![3, 2] ![1, 1] inb_S4x4_S1x1_3_2) (Shape.Idx.first (by decide)))
      (View.ld b (Rect.unit ![2] ![1] inb_S4_S1_2) (Shape.Idx.first (by decide))) y (View.ld a (Rect.unit ![2] ![1] inb_S4_S1_2) (Shape.Idx.first (by decide)))
      (View.ld w (Rect.unit ![0, 3] ![1, 1] inb_S4x4_S1x1_0_3) (Shape.Idx.first (by decide)))
      (View.ld w (Rect.unit ![1, 3] ![1, 1] inb_S4x4_S1x1_1_3) (Shape.Idx.first (by decide)))
      (View.ld w (Rect.unit ![2, 3] ![1, 1] inb_S4x4_S1x1_2_3) (Shape.Idx.first (by decide)))
      (View.ld w (Rect.unit ![3, 3] ![1, 1] inb_S4x4_S1x1_3_3) (Shape.Idx.first (by decide)))
      (View.ld b (Rect.unit ![3] ![1] inb_S4_S1_3) (Shape.Idx.first (by decide))) y (View.ld a (Rect.unit ![3] ![1] inb_S4_S1_3) (Shape.Idx.first (by decide)))

/-- The sum of the squares of each row. -/
abbrev wB (w : Vec Ideal S4x4 .f32) (b a : Vec Ideal S4 .f32) (x : Vec Ideal S1x64x4x3584 .bf16) (y : Vec Ideal S64x3584 .f32) : FVec Ideal S64x1 .f32 :=
  k0_pay13 (k0_pay4 (View.ld x (Rect.unit ![0, 0, 0, 0] ![1, 64, 1, 3584] inb_S1x64x4x3584_S1x64x1x3584_0_0_0_0)))
      (k0_pay5 (View.ld x (Rect.unit ![0, 0, 1, 0] ![1, 64, 1, 3584] inb_S1x64x4x3584_S1x64x1x3584_0_0_1_0)))
      (k0_pay6 (View.ld x (Rect.unit ![0, 0, 2, 0] ![1, 64, 1, 3584] inb_S1x64x4x3584_S1x64x1x3584_0_0_2_0)))
      (k0_pay7 (View.ld x (Rect.unit ![0, 0, 3, 0] ![1, 64, 1, 3584] inb_S1x64x4x3584_S1x64x1x3584_0_0_3_0)))
      (k0_pay9 (k0_pay4 (View.ld x (Rect.unit ![0, 0, 0, 0] ![1, 64, 1, 3584] inb_S1x64x4x3584_S1x64x1x3584_0_0_0_0)))
      (k0_pay5 (View.ld x (Rect.unit ![0, 0, 1, 0] ![1, 64, 1, 3584] inb_S1x64x4x3584_S1x64x1x3584_0_0_1_0)))
      (k0_pay6 (View.ld x (Rect.unit ![0, 0, 2, 0] ![1, 64, 1, 3584] inb_S1x64x4x3584_S1x64x1x3584_0_0_2_0)))
      (k0_pay7 (View.ld x (Rect.unit ![0, 0, 3, 0] ![1, 64, 1, 3584] inb_S1x64x4x3584_S1x64x1x3584_0_0_3_0)))
      (k0_pay8 (View.ld x (Rect.unit ![0, 0, 0, 0] ![1, 64, 1, 3584] inb_S1x64x4x3584_S1x64x1x3584_0_0_0_0))
      (View.ld x (Rect.unit ![0, 0, 1, 0] ![1, 64, 1, 3584] inb_S1x64x4x3584_S1x64x1x3584_0_0_1_0))
      (View.ld x (Rect.unit ![0, 0, 2, 0] ![1, 64, 1, 3584] inb_S1x64x4x3584_S1x64x1x3584_0_0_2_0))
      (View.ld x (Rect.unit ![0, 0, 3, 0] ![1, 64, 1, 3584] inb_S1x64x4x3584_S1x64x1x3584_0_0_3_0))
      (View.ld w (Rect.unit ![0, 0] ![1, 1] inb_S4x4_S1x1_0_0) (Shape.Idx.first (by decide)))
      (View.ld w (Rect.unit ![1, 0] ![1, 1] inb_S4x4_S1x1_1_0) (Shape.Idx.first (by decide)))
      (View.ld w (Rect.unit ![2, 0] ![1, 1] inb_S4x4_S1x1_2_0) (Shape.Idx.first (by decide)))
      (View.ld w (Rect.unit ![3, 0] ![1, 1] inb_S4x4_S1x1_3_0) (Shape.Idx.first (by decide)))
      (View.ld b (Rect.unit ![0] ![1] inb_S4_S1_0) (Shape.Idx.first (by decide))) y)
      (View.ld a (Rect.unit ![0] ![1] inb_S4_S1_0) (Shape.Idx.first (by decide)))
      (View.ld w (Rect.unit ![0, 1] ![1, 1] inb_S4x4_S1x1_0_1) (Shape.Idx.first (by decide)))
      (View.ld w (Rect.unit ![1, 1] ![1, 1] inb_S4x4_S1x1_1_1) (Shape.Idx.first (by decide)))
      (View.ld w (Rect.unit ![2, 1] ![1, 1] inb_S4x4_S1x1_2_1) (Shape.Idx.first (by decide)))
      (View.ld w (Rect.unit ![3, 1] ![1, 1] inb_S4x4_S1x1_3_1) (Shape.Idx.first (by decide)))
      (View.ld b (Rect.unit ![1] ![1] inb_S4_S1_1) (Shape.Idx.first (by decide))) y (View.ld a (Rect.unit ![1] ![1] inb_S4_S1_1) (Shape.Idx.first (by decide))))
      (k0_pay10 (k0_pay4 (View.ld x (Rect.unit ![0, 0, 0, 0] ![1, 64, 1, 3584] inb_S1x64x4x3584_S1x64x1x3584_0_0_0_0)))
      (k0_pay5 (View.ld x (Rect.unit ![0, 0, 1, 0] ![1, 64, 1, 3584] inb_S1x64x4x3584_S1x64x1x3584_0_0_1_0)))
      (k0_pay6 (View.ld x (Rect.unit ![0, 0, 2, 0] ![1, 64, 1, 3584] inb_S1x64x4x3584_S1x64x1x3584_0_0_2_0)))
      (View.ld w (Rect.unit ![0, 2] ![1, 1] inb_S4x4_S1x1_0_2) (Shape.Idx.first (by decide)))
      (View.ld w (Rect.unit ![1, 2] ![1, 1] inb_S4x4_S1x1_1_2) (Shape.Idx.first (by decide)))
      (View.ld w (Rect.unit ![2, 2] ![1, 1] inb_S4x4_S1x1_2_2) (Shape.Idx.first (by decide))))
      (View.ld w (Rect.unit ![3, 2] ![1, 1] inb_S4x4_S1x1_3_2) (Shape.Idx.first (by decide)))
      (View.ld b (Rect.unit ![2] ![1] inb_S4_S1_2) (Shape.Idx.first (by decide))) y (View.ld a (Rect.unit ![2] ![1] inb_S4_S1_2) (Shape.Idx.first (by decide)))
      (View.ld w (Rect.unit ![0, 3] ![1, 1] inb_S4x4_S1x1_0_3) (Shape.Idx.first (by decide)))
      (View.ld w (Rect.unit ![1, 3] ![1, 1] inb_S4x4_S1x1_1_3) (Shape.Idx.first (by decide)))
      (View.ld w (Rect.unit ![2, 3] ![1, 1] inb_S4x4_S1x1_2_3) (Shape.Idx.first (by decide)))
      (View.ld w (Rect.unit ![3, 3] ![1, 1] inb_S4x4_S1x1_3_3) (Shape.Idx.first (by decide)))
      (View.ld b (Rect.unit ![3] ![1] inb_S4_S1_3) (Shape.Idx.first (by decide))) y (View.ld a (Rect.unit ![3] ![1] inb_S4_S1_3) (Shape.Idx.first (by decide)))

/-- The weighted streams, at an index. -/
theorem hB_apply (w b a x y) (i : S64x3584.Idx) : hB w b a x y i = mixed (fun n => a (ix1 n)) (updated (fun p q => w (ix2 p q)) (fun n => b (ix1 n))
    (fun n d => x (ix4 0 (i 0) n d)) (fun d => y (ix2 (i 0) d))) (i 1) := by
  unfold mixed updated hB
  simp only [Fin.sum_univ_four]
  pointwise [k0_pay11, k0_pay10, k0_pay9, k0_pay8, k0_pay7, k0_pay6, k0_pay5, k0_pay4, View.ld]
  simp only [mul_comm]

/-- A grid point's rows before quantising. -/
abbrev uB (w : Vec Ideal S4x4 .f32) (b a : Vec Ideal S4 .f32) (g : Vec Ideal S1x3584 .f32) (x : Vec Ideal S1x64x4x3584 .bf16) (y : Vec Ideal S64x3584 .f32) : FVec Ideal S64x3584 .f32 :=
  k0_pay14 (hB w b a x y) (k0_pay12 g) (wB w b a x y)

/-- The sums of squares, from the weighted streams. -/
theorem wB_eq (w b a x y) : wB w b a x y
    = shapeCast S64x1 (multiReduction .add [1] S64 (mulf (hB w b a x y) (hB w b a x y)) 0x00000000#32 reduces_S64x3584_S64 (.inl rfl) rfl) shapeCasts_S64_S64x1 := rfl

/-- The normalisation, at an index. -/
theorem norm_apply (h : FVec Ideal S64x3584 .f32) (g : Vec Ideal S1x3584 .f32) (i : S64x3584.Idx) :
    k0_pay14 h (k0_pay12 g) (shapeCast S64x1 (multiReduction .add [1] S64 (mulf h h) 0x00000000#32 reduces_S64x3584_S64 (.inl rfl) rfl) shapeCasts_S64_S64x1) i
      = normed (fun k => h (ix2 (i 0) k)) (fun d => g (ix2 0 d)) (i 1) := by
  unfold normed
  pointwise [k0_pay14, k0_pay12]

/-- The rows before quantising, at an index. -/
theorem uB_apply (w b a g x y) (i : S64x3584.Idx) : uB w b a g x y i
    = normed (mixed (fun n => a (ix1 n)) (updated (fun p q => w (ix2 p q)) (fun n => b (ix1 n))
    (fun n d => x (ix4 0 (i 0) n d)) (fun d => y (ix2 (i 0) d)))) (fun d => g (ix2 0 d)) (i 1) := by
  unfold uB
  rw [wB_eq, norm_apply]
  exact congrArg (fun f => normed f _ _) (funext fun k => hB_apply w b a x y (ix2 (i 0) k))

/-- The gain the kernel is given, as a row. -/
theorem V0 (c : Dev nD) (d : Fin 3584) : V m c main_v0 (ix2 0 d) = m ((c : Thread nD τ).loc main_arg3) (ix1 d) := by
  entry_read
  pointwise []

/-- A grid point's rows are the whole array's. -/
theorem u_point (c : Dev nD) (t : Fin cfg0.N) (i : S64x3584.Idx) :
    uB (iblk m c 0 t) (iblk m c 1 t) (iblk m c 2 t) (iblk m c 3 t) (iblk m c 4 t) (iblk m c 5 t) i
      = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          ⟨64 * t.val + (i 0).val, by have := (i 0).isLt; have : (i 0).val < 64 := this; have := t.isLt; have : t.val < 24 := this; omega⟩ (i 1) := by
  rw [uB_apply]
  unfold row
  have e0 : (fun p q : Fin 4 => iblk m c 0 t (ix2 p q)) = fun p q => m ((c : Thread nD τ).loc main_arg0) (ix2 p q) := by
    funext p q
    blk_point [iblk, V, idx t]
  have e1 : (fun n : Fin 4 => iblk m c 1 t (ix1 n)) = fun n => m ((c : Thread nD τ).loc main_arg1) (ix1 n) := by
    funext n
    blk_point [iblk, V, idx t]
  have e2 : (fun n : Fin 4 => iblk m c 2 t (ix1 n)) = fun n => m ((c : Thread nD τ).loc main_arg2) (ix1 n) := by
    funext n
    blk_point [iblk, V, idx t]
  have e3 : (fun d : Fin 3584 => iblk m c 3 t (ix2 0 d)) = fun d => m ((c : Thread nD τ).loc main_arg3) (ix1 d) := by
    funext d
    rw [← V0 m c d]
    blk_point [iblk, idx t]
  have e4 : (fun (n : Fin 4) (d : Fin 3584) => iblk m c 4 t (ix4 0 (i 0) n d)) = fun n d => m ((c : Thread nD τ).loc main_arg4)
      (ix4 ⟨(64 * t.val + (i 0).val) / 128, by have := (i 0).isLt; have : (i 0).val < 64 := this; have := t.isLt; have : t.val < 24 := this; omega⟩
       ⟨(64 * t.val + (i 0).val) % 128, by omega⟩ n d) := by
    funext n d
    blk_point [iblk, V, idx t]
  have e5 : (fun d : Fin 3584 => iblk m c 5 t (ix2 (i 0) d)) = fun d => m ((c : Thread nD τ).loc main_arg5) (ix2 ⟨64 * t.val + (i 0).val, by have := (i 0).isLt; have : (i 0).val < 64 := this; have := t.isLt; have : t.val < 24 := this; omega⟩ d) := by
    funext d
    blk_point [iblk, V, idx t]
  rw [e0, e1, e2, e3, e4, e5]

/-- Each row's y. -/
theorem pay15_eq (h : FVec Ideal S64x3584 .f32) (g : FVec Ideal S1x3584 .f32) (w : FVec Ideal S64x1 .f32) :
    k0_pay15 h g w = yV (k0_pay14 h g w) reduces_S64x3584_S64 shapeCasts_S64_S64x1 := rfl

/-- The first three steps of the search. -/
theorem pay16_eq (h : FVec Ideal S64x3584 .f32) (g : FVec Ideal S1x3584 .f32) (w : FVec Ideal S64x1 .f32) :
    k0_pay16 h g w = stepV (k0_pay15 h g w) 32#32 (stepV (k0_pay15 h g w) 64#32 (stepV (k0_pay15 h g w) 128#32 (broadcast S64x1 0#32))) := rfl

/-- The last five steps. -/
theorem pay17_eq (y : FVec Ideal S64x1 .f32) (ex : IVec S64x1 32) :
    k0_pay17 y ex 16#32
      = stepV y 1#32 (stepV y 2#32 (stepV y 4#32 (stepV y 8#32 (stepV y 16#32 ex)))) := rfl

/-- The exponent a grid point finds for each of its rows. -/
theorem exp_pay (h : FVec Ideal S64x3584 .f32) (g : FVec Ideal S1x3584 .f32) (w : FVec Ideal S64x1 .f32) :
    k0_pay1 (k0_pay17 (k0_pay15 h g w) (k0_pay16 h g w) 16#32) 0#32 = kexpV (k0_pay15 h g w) := by
  have hs : k0_pay17 (k0_pay15 h g w) (k0_pay16 h g w) 16#32 = searchV (k0_pay15 h g w) := by
    unfold searchV
    rw [pay17_eq, pay16_eq]
  unfold k0_pay1 kexpV
  rw [hs]

/-- The scales a grid point stores. -/
theorem scale_point (h : FVec Ideal S64x3584 .f32) (g : FVec Ideal S1x3584 .f32) (w : FVec Ideal S64x1 .f32) (i : S64x1.Idx) :
    k0_pay2 (F := Ideal) (k0_pay17 (k0_pay15 h g w) (k0_pay16 h g w) 16#32) 0#32 i
      = rowScale fun k : Fin 3584 => k0_pay14 h g w (ix2 (i 0) k) := by
  unfold k0_pay2
  rw [exp_pay, pay15_eq]
  exact kscale_yV _ _ _ i

/-- The codes a grid point stores. -/
theorem code_point (h : FVec Ideal S64x3584 .f32) (g : FVec Ideal S1x3584 .f32) (w : FVec Ideal S64x1 .f32) (i : S64x3584.Idx) :
    k0_pay3 (k0_pay14 h g w) (k0_pay17 (k0_pay15 h g w) (k0_pay16 h g w) 16#32) 0#32 i
      = rowCode (fun k : Fin 3584 => k0_pay14 h g w (ix2 (i 0) k)) (k0_pay14 h g w i) := by
  unfold k0_pay3
  rw [exp_pay, pay15_eq]
  exact kcodes_yV _ _ _ _ _ i

/-- After the run the scales are each row's scale. -/
theorem final_scale (c : Dev nD) : (dats m 0 c).arrAt 7 (cfgs 0).N
    = fun i => rowScale (row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) := by
  refine (dats m 0 c).arrAt_eq_of_covers 7 _ (by decide +kernel) fun t _ y => ?_
  blk_simp
  rw [after0_7]
  unfold outsAt0
  frame_out
  refine (scale_point _ _ _ _).trans (congrArg rowScale (funext fun k => (u_point m c t _).trans ?_))
  blk_point [idx t]

/-- After the run the codes are each row's codes. -/
theorem final_code (c : Dev nD) : (dats m 0 c).arrAt 6 (cfgs 0).N
    = fun i => rowCode (row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
        (row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)) := by
  refine (dats m 0 c).arrAt_eq_of_covers 6 _ (by decide +kernel) fun t _ y => ?_
  blk_simp
  rw [after0_6]
  unfold outsAt0
  frame_out
  refine (code_point _ _ _ _).trans (congr (congrArg rowCode (funext fun k => (u_point m c t _).trans ?_)) ((u_point m c t _).trans ?_))
  · blk_point [idx t]
  · refine Eq.trans (congrFun (?_ : row _ _ _ _ _ _ _ = row _ _ _ _ _ _ _) _) (congrArg (row _ _ _ _ _ _ _) (Fin.ext ?_))
    · funext k
      blk_point [idx t]
    · blk_point [idx t]

end Cert.MidIdeal.Codes

namespace Cert.MidRefIdeal.Codes
open Cert.MidRefIdeal Cert.MidRefIdeal.Gen Cert.Quantiser Cert.Row

variable (m : (ℓ : Loc nD τ sig) → Buf (Elt Ideal) ℓ)

/-- The reference has one block, the whole array. -/
theorem idx : ∀ t : Fin cfg0.N, win0_0.index t = ![0, 0] ∧ win0_1.index t = ![0, 0] ∧ win0_2.index t = ![0, 0] :=
  (by decide +kernel : ∀ t : Fin grid0.N, _)

/-- The rows the reference quantises. -/
theorem V25 (c : Dev nD) (j : S1536x3584.Idx) : (V m c main_v25 : S1536x3584.Idx → EReal) j
    = Cert.MidIdeal.Codes.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) := by
  have hk : ∀ (r : Fin 1536) (h : r.val / 128 * 128 + r.val % 128 < 1536), (⟨r.val / 128 * 128 + r.val % 128, h⟩ : Fin 1536) = r :=
    fun r h => Fin.ext (Nat.div_add_mod' r.val 128)
  obtain ⟨r, d, rfl⟩ : ∃ r d, j = ix2 r d := ⟨_, _, eq_ix2 j⟩
  entry_read
  unfold Cert.MidIdeal.Codes.row normed mixed updated
  pointwise []
  simp only [hk]

/-- The reference's cast to its own shape is the identity. -/
theorem pay1_eq (v : Vec Ideal S1536x3584 .f32) : k0_pay1 v = v := by
  unfold k0_pay1
  exact shapeCast_id _ _

/-- Each row's exponent. -/
theorem pay2_eq (v : Vec Ideal S1536x3584 .f32) :
    k0_pay2 v = rexpV (yV (k0_pay1 v) reduces_S1536x3584_S1536 shapeCasts_S1536_S1536x1) := rfl

/-- The reference's scales. -/
theorem scale_point (x : Vec Ideal S1536x3584 .f32) (i : S1536x1.Idx) :
    k0_pay4 (F := Ideal) x i = rowScale fun k : Fin 3584 => x (ix2 (i 0) k) := by
  unfold k0_pay4
  rw [pay2_eq, pay1_eq]
  exact rscale_yV _ _ _ i

/-- The reference's codes. -/
theorem code_point (x : Vec Ideal S1536x3584 .f32) (i : S1536x3584.Idx) :
    k0_pay3 (F := Ideal) x i = rowCode (fun k : Fin 3584 => x (ix2 (i 0) k)) (x i) := by
  unfold k0_pay3
  rw [pay2_eq, pay1_eq]
  exact rcodes_yV _ _ _ _ _ i

/-- After the run the scales are each row's scale. -/
theorem final_scale (c : Dev nD) : (dats m 0 c).arrAt 2 (cfgs 0).N
    = fun i => rowScale (Cert.MidIdeal.Codes.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) := by
  refine (dats m 0 c).arrAt_eq_of_covers 2 _ (by decide +kernel) fun t _ y => ?_
  blk_simp
  rw [after0_2]; frame_out
  refine (scale_point _ _).trans (congrArg rowScale (funext fun k => ?_))
  refine Eq.trans ?_ (V25 m c (ix2 _ k))
  blk_point [iblk, idx t]

/-- After the run the codes are each row's codes. -/
theorem final_code (c : Dev nD) : (dats m 0 c).arrAt 1 (cfgs 0).N
    = fun i => rowCode (Cert.MidIdeal.Codes.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))
        (Cert.MidIdeal.Codes.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)) := by
  refine (dats m 0 c).arrAt_eq_of_covers 1 _ (by decide +kernel) fun t _ y => ?_
  blk_simp
  rw [after0_1]; frame_out
  refine (code_point _ _).trans (congr (congrArg rowCode (funext fun k => ?_)) ?_)
  · refine Eq.trans ?_ (V25 m c (ix2 _ k))
    blk_point [iblk, idx t]
  · refine Eq.trans ?_ (V25 m c _)
    blk_point [iblk, idx t]

end Cert.MidRefIdeal.Codes

end
-- ==== Proof.GateUpProduct.lean ====
/- The gate and up products: each grid point computes 512 columns of silu(gate) * up; together they are the whole array. -/
module

public import proofs.«01_k».proof.Proof.Gen.GateUpIdeal.Frame
public import proofs.«01_k».proof.Proof.Gen.GateUpRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateUpIdeal.Product
open Cert.GateUpIdeal Cert.GateUpIdeal.Gen

variable (m : (ℓ : Loc nD τ sig) → Buf (Elt Ideal) ℓ)

/-- Which block of its array each window holds at a grid point. -/
theorem idx : ∀ t : Fin cfg0.N, win0_0.index t = ![0, 0] ∧ win0_1.index t = ![0, 0] ∧ win0_2.index t = ![0, t.val] ∧ win0_3.index t = ![0, t.val] ∧ win0_4.index t = ![0, t.val] ∧ win0_5.index t = ![0, t.val] ∧ win0_6.index t = ![0, t.val] :=
  (by decide +kernel : ∀ t : Fin grid0.N, _)

/-- What a grid point computes, at an index of its block: the reference's value at that index of the whole array. -/
theorem point (c : Dev nD) (t : Fin cfg0.N) (y) :
    k0_pay1 (iblk m c 0 t) (iblk m c 2 t) (iblk m c 1 t) (iblk m c 3 t) (iblk m c 0 t) (iblk m c 4 t) (iblk m c 1 t) (iblk m c 5 t) y
      = Cert.GateUpRefIdeal.Gen.k0_pay1 (m ((c : Thread nD τ).loc main_arg0)) (m ((c : Thread nD τ).loc main_arg1)) (m ((c : Thread nD τ).loc main_arg2)) (m ((c : Thread nD τ).loc main_arg3)) (m ((c : Thread nD τ).loc main_arg0)) (m ((c : Thread nD τ).loc main_arg1)) (m ((c : Thread nD τ).loc main_arg4)) (m ((c : Thread nD τ).loc main_arg5)) (((cfg0.win 6).blk t).view.emb y) := by
  pointwise [k0_pay1, Cert.GateUpRefIdeal.Gen.k0_pay1]
  blk_point [iblk, V, idx t]

/-- After the run the kernel's result array is the reference's result of the same arguments. -/
theorem final (c : Dev nD) : (dats m 0 c).arrAt 6 (cfgs 0).N
    = Cert.GateUpRefIdeal.Gen.k0_pay1 (m ((c : Thread nD τ).loc main_arg0)) (m ((c : Thread nD τ).loc main_arg1)) (m ((c : Thread nD τ).loc main_arg2)) (m ((c : Thread nD τ).loc main_arg3)) (m ((c : Thread nD τ).loc main_arg0)) (m ((c : Thread nD τ).loc main_arg1)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.GateUpIdeal.Product

end
-- ==== Proof.QuantValue.lean ====
/- The quantiser of the hidden rows: each grid point quantises 64 rows; together they are the whole array. -/
module

public import proofs.«01_k».proof.Proof.Gen.QuantIdeal.Frame
public import proofs.«01_k».proof.Proof.Gen.QuantRefIdeal.Frame
public import proofs.«01_k».proof.Proof.QuantiserScale
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QuantIdeal.Codes
open Cert.QuantIdeal Cert.QuantIdeal.Gen Cert.Quantiser

variable (m : (ℓ : Loc nD τ sig) → Buf (Elt Ideal) ℓ)

/-- Which block of its array each window holds at a grid point. -/
theorem idx : ∀ t : Fin cfg0.N, win0_0.index t = ![t.val, 0] ∧ win0_1.index t = ![t.val, 0] ∧ win0_2.index t = ![t.val, 0] :=
  (by decide +kernel : ∀ t : Fin grid0.N, _)

/-- The first three steps of the search. -/
theorem pay5_eq (v : Vec Ideal S64x14336 .f32) :
    k0_pay5 v = stepV (k0_pay4 v) 32#32 (stepV (k0_pay4 v) 64#32 (stepV (k0_pay4 v) 128#32 (broadcast S64x1 0#32))) := rfl

/-- The fourth comparison. -/
theorem pay6_eq (v : Vec Ideal S64x14336 .f32) :
    k0_pay6 v = cmpf .oge (k0_pay4 v) (bitcastToFloat .f32 (shli (addi (k0_pay5 v) (broadcast S64x1 16#32)) (broadcast S64x1 23#32))) := rfl

/-- The last five steps. -/
theorem pay7_eq (y : FVec Ideal S64x1 .f32) (ex : IVec S64x1 32) :
    k0_pay7 y ex (cmpf .oge y (bitcastToFloat .f32 (shli (addi ex (broadcast S64x1 16#32)) (broadcast S64x1 23#32))))
      = stepV y 1#32 (stepV y 2#32 (stepV y 4#32 (stepV y 8#32 (stepV y 16#32 ex)))) := rfl

/-- The exponent a grid point finds for each of its rows. -/
theorem exp_pay (x : Vec Ideal S64x14336 .f32) :
    k0_pay1 (k0_pay14 (F := Ideal) x) (k0_pay15 (F := Ideal) x) (k0_pay16 (F := Ideal) x) = kexpV (k0_pay4 (View.ld x r0_0)) := by
  have h : k0_pay7 (k0_pay11 x) (k0_pay12 x) (k0_pay13 x) = searchV (k0_pay4 (View.ld x r0_0)) := by
    unfold k0_pay11 k0_pay12 k0_pay13 searchV
    rw [pay6_eq, pay7_eq, pay5_eq]
  unfold k0_pay14 k0_pay15 k0_pay16 k0_pay8 k0_pay9 k0_pay10 k0_pay1 kexpV
  rw [h]

/-- The scales a grid point stores, as the shared quantiser's scale of its rows' y. -/
theorem scale_pay (x : Vec Ideal S64x14336 .f32) :
    k0_pay2 (F := Ideal) (k0_pay14 (F := Ideal) x) (k0_pay15 (F := Ideal) x) (k0_pay16 (F := Ideal) x) = kscaleV (k0_pay4 (View.ld x r0_0)) := by
  unfold k0_pay2 kscaleV
  rw [exp_pay]

/-- The codes a grid point stores, with the shared quantiser's inverse scale. -/
theorem code_pay (x : Vec Ideal S64x14336 .f32) (v : Vec Ideal S64x14336 .f32) :
    k0_pay3 v (k0_pay14 (F := Ideal) x) (k0_pay15 (F := Ideal) x) (k0_pay16 (F := Ideal) x)
      = truncf .fp8e4m3 (minimumf (broadcast S64x14336 (Scalar.ofBits .f32 0x43E00000#32))
          (maximumf (broadcast S64x14336 (Scalar.ofBits .f32 0xC3E00000#32))
            (mulf v (broadcastTo S64x14336 (kinvV (k0_pay4 (View.ld x r0_0))) broadcasts_S64x1_S64x14336)))) bitsLt_fp8e4m3_f32 := by
  unfold k0_pay3 kinvV
  rw [exp_pay]

/-- Each row's y. -/
theorem pay4_eq (v : Vec Ideal S64x14336 .f32) : k0_pay4 v = yV v reduces_S64x14336_S64 shapeCasts_S64_S64x1 := rfl

/-- A load of the whole block is the block. -/
theorem ld_whole (x : Vec Ideal S64x14336 .f32) : View.ld x r0_0 = x := by
  frame_out

/-- The scales a grid point stores. -/
theorem scale_point (x : Vec Ideal S64x14336 .f32) (i : S64x1.Idx) :
    k0_pay2 (F := Ideal) (k0_pay14 (F := Ideal) x) (k0_pay15 (F := Ideal) x) (k0_pay16 (F := Ideal) x) i
      = rowScale fun k : Fin 14336 => x (ix2 (i 0) k) := by
  rw [scale_pay, ld_whole, pay4_eq]
  exact kscale_yV _ _ _ i

/-- The codes a grid point stores. -/
theorem code_point (x : Vec Ideal S64x14336 .f32) (i : S64x14336.Idx) :
    k0_pay3 x (k0_pay14 (F := Ideal) x) (k0_pay15 (F := Ideal) x) (k0_pay16 (F := Ideal) x) i
      = rowCode (fun k : Fin 14336 => x (ix2 (i 0) k)) (x i) := by
  rw [code_pay, ld_whole, pay4_eq]
  exact kcodes_yV _ _ _ _ _ i

/-- After the run the scales are each row's scale. -/
theorem final_scale (c : Dev nD) : (dats m 0 c).arrAt 2 (cfgs 0).N
    = fun i => rowScale fun k : Fin 14336 => m ((c : Thread nD τ).loc main_arg0) (ix2 (i 0) k) := by
  refine (dats m 0 c).arrAt_eq_of_covers 2 _ (by decide +kernel) fun t _ y => ?_
  blk_simp
  rw [after0_2]; frame_out
  refine (scale_point _ _).trans (congrArg rowScale (funext fun k => ?_))
  blk_point [iblk, V, idx t]

/-- After the run the codes are each row's codes. -/
theorem final_code (c : Dev nD) : (dats m 0 c).arrAt 1 (cfgs 0).N
    = fun i => rowCode (fun k : Fin 14336 => m ((c : Thread nD τ).loc main_arg0) (ix2 (i 0) k)) (m ((c : Thread nD τ).loc main_arg0) i) := by
  refine (dats m 0 c).arrAt_eq_of_covers 1 _ (by decide +kernel) fun t _ y => ?_
  blk_simp
  rw [after0_1]; frame_out
  refine (code_point _ _).trans (congr (congrArg rowCode (funext fun k => ?_)) ?_)
  · blk_point [iblk, V, idx t]
  · blk_point [iblk, V, idx t]

end Cert.QuantIdeal.Codes

namespace Cert.QuantRefIdeal.Codes
open Cert.QuantRefIdeal Cert.QuantRefIdeal.Gen Cert.Quantiser

variable (m : (ℓ : Loc nD τ sig) → Buf (Elt Ideal) ℓ)

/-- The reference has one block, the whole array. -/
theorem idx : ∀ t : Fin cfg0.N, win0_0.index t = ![0, 0] ∧ win0_1.index t = ![0, 0] ∧ win0_2.index t = ![0, 0] :=
  (by decide +kernel : ∀ t : Fin grid0.N, _)

/-- Each row's exponent. -/
theorem pay1_eq (v : Vec Ideal S1536x14336 .f32) :
    k0_pay1 v = rexpV (yV v reduces_S1536x14336_S1536 shapeCasts_S1536_S1536x1) := rfl

/-- The reference's scales. -/
theorem scale_point (x : Vec Ideal S1536x14336 .f32) (i : S1536x1.Idx) :
    k0_pay3 (F := Ideal) x i = rowScale fun k : Fin 14336 => x (ix2 (i 0) k) := by
  unfold k0_pay3
  rw [pay1_eq]
  exact rscale_yV _ _ _ i

/-- The reference's codes. -/
theorem code_point (x : Vec Ideal S1536x14336 .f32) (i : S1536x14336.Idx) :
    k0_pay2 (F := Ideal) x i = rowCode (fun k : Fin 14336 => x (ix2 (i 0) k)) (x i) := by
  unfold k0_pay2
  rw [pay1_eq]
  exact rcodes_yV _ _ _ _ _ i

/-- After the run the scales are each row's scale. -/
theorem final_scale (c : Dev nD) : (dats m 0 c).arrAt 2 (cfgs 0).N
    = fun i => rowScale fun k : Fin 14336 => m ((c : Thread nD τ).loc main_arg0) (ix2 (i 0) k) := by
  refine (dats m 0 c).arrAt_eq_of_covers 2 _ (by decide +kernel) fun t _ y => ?_
  blk_simp
  rw [after0_2]; frame_out
  refine (scale_point _ _).trans (congrArg rowScale (funext fun k => ?_))
  blk_point [iblk, V, idx t]

/-- After the run the codes are each row's codes. -/
theorem final_code (c : Dev nD) : (dats m 0 c).arrAt 1 (cfgs 0).N
    = fun i => rowCode (fun k : Fin 14336 => m ((c : Thread nD τ).loc main_arg0) (ix2 (i 0) k)) (m ((c : Thread nD τ).loc main_arg0) i) := by
  refine (dats m 0 c).arrAt_eq_of_covers 1 _ (by decide +kernel) fun t _ y => ?_
  blk_simp
  rw [after0_1]; frame_out
  refine (code_point _ _).trans (congr (congrArg rowCode (funext fun k => ?_)) ?_)
  · blk_point [iblk, V, idx t]
  · blk_point [iblk, V, idx t]

end Cert.QuantRefIdeal.Codes

end
-- ==== Proof.DownProduct.lean ====
/- The down product: each grid point computes a 512 by 512 tile; together they are the whole array. -/
module

public import proofs.«01_k».proof.Proof.Gen.DownIdeal.Frame
public import proofs.«01_k».proof.Proof.Gen.DownRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Product
open Cert.DownIdeal Cert.DownIdeal.Gen

variable (m : (ℓ : Loc nD τ sig) → Buf (Elt Ideal) ℓ)

/-- Which block of its array each window holds at a grid point. -/
theorem idx : ∀ t : Fin cfg0.N, win0_0.index t = ![t.val / 7, 0] ∧ win0_1.index t = ![t.val / 7, 0] ∧ win0_2.index t = ![0, t.val % 7] ∧ win0_3.index t = ![0, t.val % 7] ∧ win0_4.index t = ![t.val / 7, t.val % 7] :=
  (by decide +kernel : ∀ t : Fin grid0.N, _)

/-- What a grid point computes, at an index of its block: the reference's value at that index of the whole array. -/
theorem point (c : Dev nD) (t : Fin cfg0.N) (y) :
    k0_pay1 (iblk m c 0 t) (iblk m c 2 t) (iblk m c 1 t) (iblk m c 3 t) y
      = Cert.DownRefIdeal.Gen.k0_pay1 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.DownRefIdeal.Gen.k0_pay1]
  blk_point [iblk, V, idx t]

/-- After the run the kernel's result array is the reference's result of the same arguments. -/
theorem final (c : Dev nD) : (dats m 0 c).arrAt 4 (cfgs 0).N
    = Cert.DownRefIdeal.Gen.k0_pay1 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.DownIdeal.Product

end
-- ==== Proof.lean ====
module

public import proofs.«01_k».proof.Defs
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Skeleton
public import proofs.«01_k».proof.Proof.Gen.InRefIdeal.Launch
public import proofs.«01_k».proof.Proof.Gen.InRefIdeal.Points
public import proofs.«01_k».proof.Proof.Gen.InRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Skeleton
public import proofs.«01_k».proof.Proof.Gen.AttnRefIdeal.Launch
public import proofs.«01_k».proof.Proof.Gen.AttnRefIdeal.Points
public import proofs.«01_k».proof.Proof.Gen.AttnRefIdeal.Frame
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.OProjRefIdeal.Skeleton
public import proofs.«01_k».proof.Proof.Gen.OProjRefIdeal.Launch
public import proofs.«01_k».proof.Proof.Gen.OProjRefIdeal.Points
public import proofs.«01_k».proof.Proof.Gen.OProjRefIdeal.Frame
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidRefIdeal.Skeleton
public import proofs.«01_k».proof.Proof.Gen.MidRefIdeal.Launch
public import proofs.«01_k».proof.Proof.Gen.MidRefIdeal.Points
public import proofs.«01_k».proof.Proof.Gen.MidRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.InValue
public import proofs.«01_k».proof.Proof.Gen.QkvIdeal.Value
public import proofs.«01_k».proof.Proof.Gen.QkvRefIdeal.Value
public import proofs.«01_k».proof.Proof.QkvProduct
public import proofs.«01_k».proof.Proof.AttnValue
public import proofs.«01_k».proof.Proof.Gen.OProjIdeal.Value
public import proofs.«01_k».proof.Proof.Gen.OProjRefIdeal.Value
public import proofs.«01_k».proof.Proof.OProjProduct
public import proofs.«01_k».proof.Proof.MidValue
public import proofs.«01_k».proof.Proof.Gen.GateUpIdeal.Value
public import proofs.«01_k».proof.Proof.Gen.GateUpRefIdeal.Value
public import proofs.«01_k».proof.Proof.GateUpProduct
public import proofs.«01_k».proof.Proof.QuantValue
public import proofs.«01_k».proof.Proof.Gen.DownIdeal.Value
public import proofs.«01_k».proof.Proof.Gen.DownRefIdeal.Value
public import proofs.«01_k».proof.Proof.DownProduct
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 4000000 in
/-- `In`: the kernel's results equal the reference's, over the extended reals. -/
theorem algebraic_In : Cert.algebraic_InIdeal_InRefIdeal := by
  pair_intro
  · run_from Cert.InIdeal.Gen.run_main m g
  · run_from Cert.InRefIdeal.Gen.run_main m' g'
    · rw [Cert.InRefIdeal.Codes.final_code m' c, (hagree c).1, (hagree c).2.1, (hagree c).2.2]
      exact (Cert.InIdeal.Codes.final_code m c).symm
    · rw [Cert.InRefIdeal.Codes.final_scale m' c, (hagree c).1, (hagree c).2.1, (hagree c).2.2]
      exact (Cert.InIdeal.Codes.final_scale m c).symm

set_option maxHeartbeats 4000000 in
/-- `Qkv`: the kernel's result equals the reference's, over the extended reals. -/
theorem algebraic_Qkv : Cert.algebraic_QkvIdeal_QkvRefIdeal := by
  pair_intro
  · run_from Cert.QkvIdeal.Gen.run_main m g
  · run_from Cert.QkvRefIdeal.Value.run m' g'
    exact (Cert.QkvIdeal.Product.final m c).symm

set_option maxHeartbeats 4000000 in
/-- `Attn`: the kernel's results equal the reference's, over the extended reals. -/
theorem algebraic_Attn : Cert.algebraic_AttnIdeal_AttnRefIdeal := by
  pair_intro
  · run_from Cert.AttnIdeal.Gen.run_main m g
  · run_from Cert.AttnRefIdeal.Gen.run_main m' g'
    · rw [Cert.AttnRefIdeal.Codes.final_code m' c, hagree c]
      exact (Cert.AttnIdeal.Codes.final_code m c).symm
    · rw [Cert.AttnRefIdeal.Codes.final_scale m' c, hagree c]
      exact (Cert.AttnIdeal.Codes.final_scale m c).symm

set_option maxHeartbeats 4000000 in
/-- `OProj`: the kernel's result equals the reference's, over the extended reals. -/
theorem algebraic_OProj : Cert.algebraic_OProjIdeal_OProjRefIdeal := by
  pair_intro
  · run_from Cert.OProjIdeal.Gen.run_main m g
  · run_from Cert.OProjRefIdeal.Value.run m' g'
    exact (Cert.OProjIdeal.Product.final m c).symm

set_option maxHeartbeats 4000000 in
/-- `Mid`: the kernel's results equal the reference's, over the extended reals. -/
theorem algebraic_Mid : Cert.algebraic_MidIdeal_MidRefIdeal := by
  pair_intro
  · run_from Cert.MidIdeal.Gen.run_main m g
  · run_from Cert.MidRefIdeal.Gen.run_main m' g'
    · rw [Cert.MidRefIdeal.Codes.final_code m' c, (hagree c).1, (hagree c).2.1, (hagree c).2.2.1, (hagree c).2.2.2.1, (hagree c).2.2.2.2.1, (hagree c).2.2.2.2.2]
      exact (Cert.MidIdeal.Codes.final_code m c).symm
    · rw [Cert.MidRefIdeal.Codes.final_scale m' c, (hagree c).1, (hagree c).2.1, (hagree c).2.2.1, (hagree c).2.2.2.1, (hagree c).2.2.2.2.1, (hagree c).2.2.2.2.2]
      exact (Cert.MidIdeal.Codes.final_scale m c).symm

set_option maxHeartbeats 4000000 in
/-- `GateUp`: the kernel's result equals the reference's, over the extended reals. -/
theorem algebraic_GateUp : Cert.algebraic_GateUpIdeal_GateUpRefIdeal := by
  pair_intro
  · run_from Cert.GateUpIdeal.Gen.run_main m g
  · run_from Cert.GateUpRefIdeal.Value.run m' g'
    exact (Cert.GateUpIdeal.Product.final m c).symm

set_option maxHeartbeats 4000000 in
/-- `Quant`: the kernel's results equal the reference's, over the extended reals. -/
theorem algebraic_Quant : Cert.algebraic_QuantIdeal_QuantRefIdeal := by
  pair_intro
  · run_from Cert.QuantIdeal.Gen.run_main m g
  · run_from Cert.QuantRefIdeal.Gen.run_main m' g'
    · rw [Cert.QuantRefIdeal.Codes.final_code m' c, hagree c]
      exact (Cert.QuantIdeal.Codes.final_code m c).symm
    · rw [Cert.QuantRefIdeal.Codes.final_scale m' c, hagree c]
      exact (Cert.QuantIdeal.Codes.final_scale m c).symm

set_option maxHeartbeats 4000000 in
/-- `Down`: the kernel's result equals the reference's, over the extended reals. -/
theorem algebraic_Down : Cert.algebraic_DownIdeal_DownRefIdeal := by
  pair_intro
  · run_from Cert.DownIdeal.Gen.run_main m g
  · run_from Cert.DownRefIdeal.Value.run m' g'
    exact (Cert.DownIdeal.Product.final m c).symm

/-- Every claim of every call. -/
theorem claim : Cert.Claim := ⟨Cert.In.Gen.facts,
  Cert.InIdeal.Gen.facts,
  Cert.InRefIdeal.Gen.facts,
  Cert.Qkv.Gen.facts,
  Cert.QkvIdeal.Gen.facts,
  Cert.QkvRefIdeal.Gen.facts,
  Cert.Attn.Gen.facts,
  Cert.AttnIdeal.Gen.facts,
  Cert.AttnRefIdeal.Gen.facts,
  Cert.OProj.Gen.facts,
  Cert.OProjIdeal.Gen.facts,
  Cert.OProjRefIdeal.Gen.facts,
  Cert.Mid.Gen.facts,
  Cert.MidIdeal.Gen.facts,
  Cert.MidRefIdeal.Gen.facts,
  Cert.GateUp.Gen.facts,
  Cert.GateUpIdeal.Gen.facts,
  Cert.GateUpRefIdeal.Gen.facts,
  Cert.Quant.Gen.facts,
  Cert.QuantIdeal.Gen.facts,
  Cert.QuantRefIdeal.Gen.facts,
  Cert.Down.Gen.facts,
  Cert.DownIdeal.Gen.facts,
  Cert.DownRefIdeal.Gen.facts,
  fun m ρ _ => Cert.In.Gen.frame m ρ,
  fun m ρ _ => Cert.InIdeal.Gen.frame m ρ,
  fun m ρ _ => Cert.InRefIdeal.Gen.frame m ρ,
  fun m ρ _ => Cert.Qkv.Gen.frame m ρ,
  fun m ρ _ => Cert.QkvIdeal.Gen.frame m ρ,
  fun m ρ _ => Cert.QkvRefIdeal.Gen.frame m ρ,
  fun m ρ _ => Cert.Attn.Gen.frame m ρ,
  fun m ρ _ => Cert.AttnIdeal.Gen.frame m ρ,
  fun m ρ _ => Cert.AttnRefIdeal.Gen.frame m ρ,
  fun m ρ _ => Cert.OProj.Gen.frame m ρ,
  fun m ρ _ => Cert.OProjIdeal.Gen.frame m ρ,
  fun m ρ _ => Cert.OProjRefIdeal.Gen.frame m ρ,
  fun m ρ _ => Cert.Mid.Gen.frame m ρ,
  fun m ρ _ => Cert.MidIdeal.Gen.frame m ρ,
  fun m ρ _ => Cert.MidRefIdeal.Gen.frame m ρ,
  fun m ρ _ => Cert.GateUp.Gen.frame m ρ,
  fun m ρ _ => Cert.GateUpIdeal.Gen.frame m ρ,
  fun m ρ _ => Cert.GateUpRefIdeal.Gen.frame m ρ,
  fun m ρ _ => Cert.Quant.Gen.frame m ρ,
  fun m ρ _ => Cert.QuantIdeal.Gen.frame m ρ,
  fun m ρ _ => Cert.QuantRefIdeal.Gen.frame m ρ,
  fun m ρ _ => Cert.Down.Gen.frame m ρ,
  fun m ρ _ => Cert.DownIdeal.Gen.frame m ρ,
  fun m ρ _ => Cert.DownRefIdeal.Gen.frame m ρ,
  trivial,
  algebraic_In,
  trivial,
  algebraic_Qkv,
  trivial,
  algebraic_Attn,
  trivial,
  algebraic_OProj,
  trivial,
  algebraic_Mid,
  trivial,
  algebraic_GateUp,
  trivial,
  algebraic_Quant,
  trivial,
  algebraic_Down⟩

end Cert.Proof

end
